-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v62)) (v1 : (c : Dev Cert.KernelIdeal.nD) → Buf (Elt Ideal) ((c.tc : Thread Cert.KernelIdeal.nD Cert.KernelIdeal.τ).loc Cert.KernelIdeal.main_v63)) (v2 : (c : Dev Cert.KernelIdeal.nD) → Buf (Elt Ideal) ((c.tc : Thread Cert.KernelIdeal.nD Cert.KernelIdeal.τ).loc Cert.KernelIdeal.main_v64)) (v3 : (c : Dev Cert.KernelIdeal.nD) → Buf (Elt Ideal) ((c.tc : Thread Cert.KernelIdeal.nD Cert.KernelIdeal.τ).loc Cert.KernelIdeal.main_v47)) (v4 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_v63) = v1 c
          ∧ r.2.mem ((c.tc : Thread Cert.KernelIdeal.nD Cert.KernelIdeal.τ).loc Cert.KernelIdeal.main_v64) = v2 c
          ∧ r.2.mem ((c.tc : Thread Cert.KernelIdeal.nD Cert.KernelIdeal.τ).loc Cert.KernelIdeal.main_v47) = v3 c
          ∧ r.2.mem ((c.tc : Thread Cert.KernelIdeal.nD Cert.KernelIdeal.τ).loc Cert.KernelIdeal.main_v60) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v194) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_v120) = v3 c
          ∧ r.2.mem ((c.tc : Thread Cert.ReferenceIdeal.nD Cert.ReferenceIdeal.τ).loc Cert.ReferenceIdeal.main_v152) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x2048 : Shape := ⟨3, ![4, 512, 2048]⟩
abbrev S1024x1024x3 : Shape := ⟨3, ![1024, 1024, 3]⟩
abbrev S1024 : Shape := ⟨1, ![1024]⟩
abbrev S20x1024x1 : Shape := ⟨3, ![20, 1024, 1]⟩
abbrev S20 : Shape := ⟨1, ![20]⟩
abbrev S1x1024x1 : Shape := ⟨3, ![1, 1024, 1]⟩
abbrev S1 : Shape := ⟨1, ![1]⟩
abbrev S4x512x2x1024 : Shape := ⟨4, ![4, 512, 2, 1024]⟩
abbrev S4x2x512x1024 : Shape := ⟨4, ![4, 2, 512, 1024]⟩
abbrev S_ : Shape := ⟨0, ![]⟩
abbrev S4x2x514x1024 : Shape := ⟨4, ![4, 2, 514, 1024]⟩
abbrev S3x1024x1024 : Shape := ⟨3, ![3, 1024, 1024]⟩
abbrev S1x3x1024x1024 : Shape := ⟨4, ![1, 3, 1024, 1024]⟩
abbrev S4x3x1024x1024 : Shape := ⟨4, ![4, 3, 1024, 1024]⟩
abbrev S1x1024 : Shape := ⟨2, ![1, 1024]⟩
abbrev S4x1024 : Shape := ⟨2, ![4, 1024]⟩
abbrev S4x1x1024 : Shape := ⟨3, ![4, 1, 1024]⟩
abbrev S20x1024 : Shape := ⟨2, ![20, 1024]⟩
abbrev S1024x20 : Shape := ⟨2, ![1024, 20]⟩
abbrev S1024x32 : Shape := ⟨2, ![1024, 32]⟩
abbrev S1024x1 : Shape := ⟨2, ![1024, 1]⟩
abbrev S1x1024x32 : Shape := ⟨3, ![1, 1024, 32]⟩
abbrev S4x1024x32 : Shape := ⟨3, ![4, 1024, 32]⟩
abbrev S32 : Shape := ⟨1, ![32]⟩
abbrev S1x32 : Shape := ⟨2, ![1, 32]⟩
abbrev S4x32 : Shape := ⟨2, ![4, 32]⟩
abbrev S4x1x32 : Shape := ⟨3, ![4, 1, 32]⟩
abbrev S4x4x512x32 : Shape := ⟨4, ![4, 4, 512, 32]⟩
abbrev S1x1x514x1024 : Shape := ⟨4, ![1, 1, 514, 1024]⟩
abbrev S1x1x1024 : Shape := ⟨3, ![1, 1, 1024]⟩
abbrev S1x1x32 : Shape := ⟨3, ![1, 1, 32]⟩
abbrev S1x1x512x32 : Shape := ⟨4, ![1, 1, 512, 32]⟩
abbrev S1x1x512x1024 : Shape := ⟨4, ![1, 1, 512, 1024]⟩
abbrev S512x1024 : Shape := ⟨2, ![512, 1024]⟩
abbrev S1x1x1024x1024 : Shape := ⟨4, ![1, 1, 1024, 1024]⟩
abbrev S1024x1024 : Shape := ⟨2, ![1024, 1024]⟩
abbrev S512x32 : Shape := ⟨2, ![512, 32]⟩
abbrev S4x512x32 : Shape := ⟨3, ![4, 512, 32]⟩
abbrev S4x1x512x32 : Shape := ⟨4, ![4, 1, 512, 32]⟩
abbrev S1x512x32 : Shape := ⟨3, ![1, 512, 32]⟩
abbrev S512 : Shape := ⟨1, ![512]⟩
abbrev S512x1 : Shape := ⟨2, ![512, 1]⟩
abbrev S4x512x20 : Shape := ⟨3, ![4, 512, 20]⟩
abbrev S4x20x512 : Shape := ⟨3, ![4, 20, 512]⟩
abbrev S80x512 : Shape := ⟨2, ![80, 512]⟩
abbrev S80x1x512 : Shape := ⟨3, ![80, 1, 512]⟩
abbrev S80x512x1 : Shape := ⟨3, ![80, 512, 1]⟩
abbrev S1x1x512 : Shape := ⟨3, ![1, 1, 512]⟩
abbrev S1x512x1 : Shape := ⟨3, ![1, 512, 1]⟩
abbrev S1x512 : Shape := ⟨2, ![1, 512]⟩
abbrev S512x512 : Shape := ⟨2, ![512, 512]⟩
abbrev S512x80 : Shape := ⟨2, ![512, 80]⟩
abbrev S1x80 : Shape := ⟨2, ![1, 80]⟩
abbrev S80 : Shape := ⟨1, ![80]⟩
abbrev S4x1x20 : Shape := ⟨3, ![4, 1, 20]⟩
abbrev S1x512x20 : Shape := ⟨3, ![1, 512, 20]⟩
abbrev S1x1x20 : Shape := ⟨3, ![1, 1, 20]⟩
abbrev S512x20 : Shape := ⟨2, ![512, 20]⟩
abbrev S1x20 : Shape := ⟨2, ![1, 20]⟩
abbrev S1x1 : Shape := ⟨2, ![1, 1]⟩
abbrev S4x20 : Shape := ⟨2, ![4, 20]⟩
abbrev S4x512x1 : Shape := ⟨3, ![4, 512, 1]⟩

abbrev nBuf : Space → Nat
  | .hbm => 104
  | .vmem => 44
  | .smem => 0
  | _ => 0

abbrev bufTy : (tb : Table) → Fin (tcTables nBuf tb) → BufTy
  | .hbm, ⟨0, _⟩ => ⟨S4x512x2048, .f32⟩
  | .hbm, ⟨1, _⟩ => ⟨S1024x1024x3, .f32⟩
  | .hbm, ⟨2, _⟩ => ⟨S1024, .f32⟩
  | .hbm, ⟨3, _⟩ => ⟨S20x1024x1, .f32⟩
  | .hbm, ⟨4, _⟩ => ⟨S20, .f32⟩
  | .hbm, ⟨5, _⟩ => ⟨S1024x1024x3, .f32⟩
  | .hbm, ⟨6, _⟩ => ⟨S1024, .f32⟩
  | .hbm, ⟨7, _⟩ => ⟨S20x1024x1, .f32⟩
  | .hbm, ⟨8, _⟩ => ⟨S20, .f32⟩
  | .hbm, ⟨9, _⟩ => ⟨S1024x1024x3, .f32⟩
  | .hbm, ⟨10, _⟩ => ⟨S1024, .f32⟩
  | .hbm, ⟨11, _⟩ => ⟨S1x1024x1, .f32⟩
  | .hbm, ⟨12, _⟩ => ⟨S1, .f32⟩
  | .hbm, ⟨13, _⟩ => ⟨S1024x1024x3, .f32⟩
  | .hbm, ⟨14, _⟩ => ⟨S1024, .f32⟩
  | .hbm, ⟨15, _⟩ => ⟨S1x1024x1, .f32⟩
  | .hbm, ⟨16, _⟩ => ⟨S1, .f32⟩
  | .hbm, ⟨17, _⟩ => ⟨S4x512x2x1024, .f32⟩
  | .hbm, ⟨18, _⟩ => ⟨S4x2x512x1024, .f32⟩
  | .hbm, ⟨19, _⟩ => ⟨S_, .i32⟩
  | .hbm, ⟨20, _⟩ => ⟨S_, .f32⟩
  | .hbm, ⟨21, _⟩ => ⟨S4x2x514x1024, .f32⟩
  | .hbm, ⟨22, _⟩ => ⟨S3x1024x1024, .f32⟩
  | .hbm, ⟨23, _⟩ => ⟨S3x1024x1024, .f32⟩
  | .hbm, ⟨24, _⟩ => ⟨S3x1024x1024, .f32⟩
  | .hbm, ⟨25, _⟩ => ⟨S3x1024x1024, .f32⟩
  | .hbm, ⟨26, _⟩ => ⟨S1x3x1024x1024, .f32⟩
  | .hbm, ⟨27, _⟩ => ⟨S1x3x1024x1024, .f32⟩
  | .hbm, ⟨28, _⟩ => ⟨S1x3x1024x1024, .f32⟩
  | .hbm, ⟨29, _⟩ => ⟨S1x3x1024x1024, .f32⟩
  | .hbm, ⟨30, _⟩ => ⟨S4x3x1024x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S4x1024, .f32⟩
  | .hbm, ⟨36, _⟩ => ⟨S4x1x1024, .f32⟩
  | .hbm, ⟨37, _⟩ => ⟨S20x1024, .f32⟩
  | .hbm, ⟨38, _⟩ => ⟨S1024x20, .f32⟩
  | .hbm, ⟨39, _⟩ => ⟨S_, .i32⟩
  | .hbm, ⟨40, _⟩ => ⟨S_, .f32⟩
  | .hbm, ⟨41, _⟩ => ⟨S1024x32, .f32⟩
  | .hbm, ⟨42, _⟩ => ⟨S20x1024, .f32⟩
  | .hbm, ⟨43, _⟩ => ⟨S1024x20, .f32⟩
  | .hbm, ⟨44, _⟩ => ⟨S_, .i32⟩
  | .hbm, ⟨45, _⟩ => ⟨S_, .f32⟩
  | .hbm, ⟨46, _⟩ => ⟨S1024x32, .f32⟩
  | .hbm, ⟨47, _⟩ => ⟨S1x1024, .f32⟩
  | .hbm, ⟨48, _⟩ => ⟨S1024x1, .f32⟩
  | .hbm, ⟨49, _⟩ => ⟨S_, .i32⟩
  | .hbm, ⟨50, _⟩ => ⟨S_, .f32⟩
  | .hbm, ⟨51, _⟩ => ⟨S1024x32, .f32⟩
  | .hbm, ⟨52, _⟩ => ⟨S1x1024, .f32⟩
  | .hbm, ⟨53, _⟩ => ⟨S1024x1, .f32⟩
  | .hbm, ⟨54, _⟩ => ⟨S_, .i32⟩
  | .hbm, ⟨55, _⟩ => ⟨S_, .f32⟩
  | .hbm, ⟨56, _⟩ => ⟨S1024x32, .f32⟩
  | .hbm, ⟨57, _⟩ => ⟨S1x1024x32, .f32⟩
  | .hbm, ⟨58, _⟩ => ⟨S1x1024x32, .f32⟩
  | .hbm, ⟨59, _⟩ => ⟨S1x1024x32, .f32⟩
  | .hbm, ⟨60, _⟩ => ⟨S1x1024x32, .f32⟩
  | .hbm, ⟨61, _⟩ => ⟨S4x1024x32, .f32⟩
  | .hbm, ⟨62, _⟩ => ⟨S_, .i32⟩
  | .hbm, ⟨63, _⟩ => ⟨S_, .f32⟩
  | .hbm, ⟨64, _⟩ => ⟨S32, .f32⟩
  | .hbm, ⟨65, _⟩ => ⟨S_, .i32⟩
  | .hbm, ⟨66, _⟩ => ⟨S_, .f32⟩
  | .hbm, ⟨67, _⟩ => ⟨S32, .f32⟩
  | .hbm, ⟨68, _⟩ => ⟨S_, .i32⟩
  | .hbm, ⟨69, _⟩ => ⟨S_, .f32⟩
  | .hbm, ⟨70, _⟩ => ⟨S32, .f32⟩
  | .hbm, ⟨71, _⟩ => ⟨S_, .i32⟩
  | .hbm, ⟨72, _⟩ => ⟨S_, .f32⟩
  | .hbm, ⟨73, _⟩ => ⟨S32, .f32⟩
  | .hbm, ⟨74, _⟩ => ⟨S1x32, .f32⟩
  | .hbm, ⟨75, _⟩ => ⟨S1x32, .f32⟩
  | .hbm, ⟨76, _⟩ => ⟨S1x32, .f32⟩
  | .hbm, ⟨77, _⟩ => ⟨S1x32, .f32⟩
  | .hbm, ⟨78, _⟩ => ⟨S4x32, .f32⟩
  | .hbm, ⟨79, _⟩ => ⟨S4x1x32, .f32⟩
  | .hbm, ⟨80, _⟩ => ⟨S4x4x512x32, .f32⟩
  | .hbm, ⟨81, _⟩ => ⟨S4x512x32, .f32⟩
  | .hbm, ⟨82, _⟩ => ⟨S4x512x32, .f32⟩
  | .hbm, ⟨83, _⟩ => ⟨S4x512x32, .f32⟩
  | .hbm, ⟨84, _⟩ => ⟨S4x512x20, .f32⟩
  | .hbm, ⟨85, _⟩ => ⟨S4x20x512, .f32⟩
  | .hbm, ⟨86, _⟩ => ⟨S80x512, .f32⟩
  | .hbm, ⟨87, _⟩ => ⟨S80x1x512, .f32⟩
  | .hbm, ⟨88, _⟩ => ⟨S80x512x1, .f32⟩
  | .hbm, ⟨89, _⟩ => ⟨S80x512x1, .f32⟩
  | .hbm, ⟨90, _⟩ => ⟨S80x512x1, .f32⟩
  | .hbm, ⟨91, _⟩ => ⟨S80x512, .f32⟩
  | .hbm, ⟨92, _⟩ => ⟨S512x80, .f32⟩
  | .hbm, ⟨93, _⟩ => ⟨S512x80, .f32⟩
  | .hbm, ⟨94, _⟩ => ⟨S80x512, .f32⟩
  | .hbm, ⟨95, _⟩ => ⟨S80x1x512, .f32⟩
  | .hbm, ⟨96, _⟩ => ⟨S80x512x1, .f32⟩
  | .hbm, ⟨97, _⟩ => ⟨S4x20x512, .f32⟩
  | .hbm, ⟨98, _⟩ => ⟨S4x512x20, .f32⟩
  | .hbm, ⟨99, _⟩ => ⟨S4x1x20, .f32⟩
  | .hbm, ⟨100, _⟩ => ⟨S4x1x20, .f32⟩
  | .hbm, ⟨101, _⟩ => ⟨S4x20, .f32⟩
  | .hbm, ⟨102, _⟩ => ⟨S4x20, .f32⟩
  | .hbm, ⟨103, _⟩ => ⟨S4x512x1, .f32⟩
  | .local _ .vmem, ⟨0, _⟩ => ⟨S1x1x514x1024, .f32⟩
  | .local _ .vmem, ⟨1, _⟩ => ⟨S1x1x514x1024, .f32⟩
  | .local _ .vmem, ⟨2, _⟩ => ⟨S1x3x1024x1024, .f32⟩
  | .local _ .vmem, ⟨3, _⟩ => ⟨S1x3x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x32, .f32⟩
  | .local _ .vmem, ⟨7, _⟩ => ⟨S1x1024x32, .f32⟩
  | .local _ .vmem, ⟨8, _⟩ => ⟨S1x1x32, .f32⟩
  | .local _ .vmem, ⟨9, _⟩ => ⟨S1x1x32, .f32⟩
  | .local _ .vmem, ⟨10, _⟩ => ⟨S1x1x512x32, .f32⟩
  | .local _ .vmem, ⟨11, _⟩ => ⟨S1x1x512x32, .f32⟩
  | .local _ .vmem, ⟨12, _⟩ => ⟨S4x1x512x32, .f32⟩
  | .local _ .vmem, ⟨13, _⟩ => ⟨S4x1x512x32, .f32⟩
  | .local _ .vmem, ⟨14, _⟩ => ⟨S1x512x32, .f32⟩
  | .local _ .vmem, ⟨15, _⟩ => ⟨S1x512x32, .f32⟩
  | .local _ .vmem, ⟨16, _⟩ => ⟨S1x512x32, .f32⟩
  | .local _ .vmem, ⟨17, _⟩ => ⟨S1x512x32, .f32⟩
  | .local _ .vmem, ⟨18, _⟩ => ⟨S1x512x32, .f32⟩
  | .local _ .vmem, ⟨19, _⟩ => ⟨S1x512x32, .f32⟩
  | .local _ .vmem, ⟨20, _⟩ => ⟨S1x1x512, .f32⟩
  | .local _ .vmem, ⟨21, _⟩ => ⟨S1x1x512, .f32⟩
  | .local _ .vmem, ⟨22, _⟩ => ⟨S1x512x1, .f32⟩
  | .local _ .vmem, ⟨23, _⟩ => ⟨S1x512x1, .f32⟩
  | .local _ .vmem, ⟨24, _⟩ => ⟨S1x512x1, .f32⟩
  | .local _ .vmem, ⟨25, _⟩ => ⟨S1x512x1, .f32⟩
  | .local _ .vmem, ⟨26, _⟩ => ⟨S1x512x1, .f32⟩
  | .local _ .vmem, ⟨27, _⟩ => ⟨S1x512x1, .f32⟩
  | .local _ .vmem, ⟨28, _⟩ => ⟨S512x80, .f32⟩
  | .local _ .vmem, ⟨29, _⟩ => ⟨S512x80, .f32⟩
  | .local _ .vmem, ⟨30, _⟩ => ⟨S1x512x1, .f32⟩
  | .local _ .vmem, ⟨31, _⟩ => ⟨S1x512x1, .f32⟩
  | .local _ .vmem, ⟨32, _⟩ => ⟨S1x1x512, .f32⟩
  | .local _ .vmem, ⟨33, _⟩ => ⟨S1x1x512, .f32⟩
  | .local _ .vmem, ⟨34, _⟩ => ⟨S1x512x1, .f32⟩
  | .local _ .vmem, ⟨35, _⟩ => ⟨S1x512x1, .f32⟩
  | .local _ .vmem, ⟨36, _⟩ => ⟨S1x512x32, .f32⟩
  | .local _ .vmem, ⟨37, _⟩ => ⟨S1x512x32, .f32⟩
  | .local _ .vmem, ⟨38, _⟩ => ⟨S1x512x20, .f32⟩
  | .local _ .vmem, ⟨39, _⟩ => ⟨S1x512x20, .f32⟩
  | .local _ .vmem, ⟨40, _⟩ => ⟨S1x1x20, .f32⟩
  | .local _ .vmem, ⟨41, _⟩ => ⟨S1x1x20, .f32⟩
  | .local _ .vmem, ⟨42, _⟩ => ⟨S1x1x20, .f32⟩
  | .local _ .vmem, ⟨43, _⟩ => ⟨S1x1x20, .f32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_0 : Ref sig .tc := ⟨.hbm, 39, rfl⟩
abbrev main_call1_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_1 : Ref sig .tc := ⟨.hbm, 44, rfl⟩
abbrev main_call2_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_2 : Ref sig .tc := ⟨.hbm, 49, rfl⟩
abbrev main_call3_v0 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_call4_v0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_4 : Ref sig .tc := ⟨.hbm, 62, rfl⟩
abbrev main_call5_v0 : Ref sig .tc := ⟨.hbm, 63, rfl⟩
abbrev main_v35 : Ref sig .tc := ⟨.hbm, 64, rfl⟩
abbrev main_c_5 : Ref sig .tc := ⟨.hbm, 65, rfl⟩
abbrev main_call6_v0 : Ref sig .tc := ⟨.hbm, 66, rfl⟩
abbrev main_v36 : Ref sig .tc := ⟨.hbm, 67, rfl⟩
abbrev main_c_6 : Ref sig .tc := ⟨.hbm, 68, rfl⟩
abbrev main_call7_v0 : Ref sig .tc := ⟨.hbm, 69, rfl⟩
abbrev main_v37 : Ref sig .tc := ⟨.hbm, 70, rfl⟩
abbrev main_c_7 : Ref sig .tc := ⟨.hbm, 71, rfl⟩
abbrev main_call8_v0 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46_0 : Ref sig .tc := ⟨.hbm, 81, rfl⟩
abbrev main_v46_1 : Ref sig .tc := ⟨.hbm, 82, rfl⟩
abbrev main_v46_2 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52_0 : Ref sig .tc := ⟨.hbm, 89, rfl⟩
abbrev main_v52_1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61_0 : Ref sig .tc := ⟨.hbm, 99, rfl⟩
abbrev main_v61_1 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc3_stg0_0 : Ref sig .tc := ⟨.vmem, 28, rfl⟩
abbrev cc3_stg1_0 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg2_1 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem1_0 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨2, ![4, 4], ![false, false]⟩

def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![arg1.toNat, v9.toNat, c0_i32_3.toNat, c0_i32_4.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x514x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1x512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x512x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![80], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x512x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := .none

@[reducible] def k3_t1_loop : Scf.Loop 32 :=
  let c1_i32 : BitVec 32 := 1#32
  let c510_i32 : BitVec 32 := 510#32
  let v10 : BitVec 32 := Scalar.addi c1_i32 c510_i32
  let c1_i32_9 : BitVec 32 := 1#32
  ⟨c1_i32, v10, c1_i32_9⟩
def k3_off1 (k3_t1 : Fin k3_t1_loop.trips) : Fin 2 → Nat :=
  let c1_i32 : BitVec 32 := 1#32
  let c1_i32_9 : BitVec 32 := 1#32
  let arg2 : BitVec 32 := Scf.iv c1_i32 c1_i32_9 k3_t1
  let v31 : Index := Scalar.indexCast arg2
  let c0_22 : Index := 0#32
  ![v31.toNat, 0]
abbrev stage3_0 : Fin 1 → Memref sig .tc .vmem S512x80 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S512x80 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := ⟨1, ![80], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x512x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![4], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x512x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x512x20 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S1x1x20 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S1x1x20 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]
-- ==== ReferenceIdeal.lean ====
abbrev S4x512x2048 : Shape := ⟨3, ![4, 512, 2048]⟩
abbrev S1024x1024x3 : Shape := ⟨3, ![1024, 1024, 3]⟩
abbrev S1024 : Shape := ⟨1, ![1024]⟩
abbrev S20x1024x1 : Shape := ⟨3, ![20, 1024, 1]⟩
abbrev S20 : Shape := ⟨1, ![20]⟩
abbrev S1x1024x1 : Shape := ⟨3, ![1, 1024, 1]⟩
abbrev S1 : Shape := ⟨1, ![1]⟩
abbrev S4x512x1024 : Shape := ⟨3, ![4, 512, 1024]⟩
abbrev S_ : Shape := ⟨0, ![]⟩
abbrev S4x514x1024 : Shape := ⟨3, ![4, 514, 1024]⟩
abbrev S1024x1024x1 : Shape := ⟨3, ![1024, 1024, 1]⟩
abbrev S1024x1024 : Shape := ⟨2, ![1024, 1024]⟩
abbrev S1x1x1024 : Shape := ⟨3, ![1, 1, 1024]⟩
abbrev S20x1024 : Shape := ⟨2, ![20, 1024]⟩
abbrev S4x512x20 : Shape := ⟨3, ![4, 512, 20]⟩
abbrev S1x1x20 : Shape := ⟨3, ![1, 1, 20]⟩
abbrev S1x1024 : Shape := ⟨2, ![1, 1024]⟩
abbrev S4x512x1 : Shape := ⟨3, ![4, 512, 1]⟩
abbrev S1x1x1 : Shape := ⟨3, ![1, 1, 1]⟩
abbrev S4x512 : Shape := ⟨2, ![4, 512]⟩
abbrev S4x20x512 : Shape := ⟨3, ![4, 20, 512]⟩
abbrev S80x512 : Shape := ⟨2, ![80, 512]⟩
abbrev S80x1 : Shape := ⟨2, ![80, 1]⟩
abbrev S80 : Shape := ⟨1, ![80]⟩
abbrev S4x20 : Shape := ⟨2, ![4, 20]⟩
abbrev S4 : Shape := ⟨1, ![4]⟩
abbrev S4x1 : Shape := ⟨2, ![4, 1]⟩

abbrev nBuf : Space → Nat
  | .hbm => 327
  | .vmem => 0
  | .smem => 0
  | _ => 0

abbrev hbmTy0_0 (i : Nat) : BufTy := match i % 128 with
  | 0 => ⟨S4x512x2048, .f32⟩
  | 1 => ⟨S1024x1024x3, .f32⟩
  | 2 => ⟨S1024, .f32⟩
  | 3 => ⟨S20x1024x1, .f32⟩
  | 4 => ⟨S20, .f32⟩
  | 5 => ⟨S1024x1024x3, .f32⟩
  | 6 => ⟨S1024, .f32⟩
  | 7 => ⟨S20x1024x1, .f32⟩
  | 8 => ⟨S20, .f32⟩
  | 9 => ⟨S1024x1024x3, .f32⟩
  | 10 => ⟨S1024, .f32⟩
  | 11 => ⟨S1x1024x1, .f32⟩
  | 12 => ⟨S1, .f32⟩
  | 13 => ⟨S1024x1024x3, .f32⟩
  | 14 => ⟨S1024, .f32⟩
  | 15 => ⟨S1x1024x1, .f32⟩
  | 16 => ⟨S1, .f32⟩
  | 17 => ⟨S4x512x1024, .f32⟩
  | 18 => ⟨S4x512x1024, .f32⟩
  | 19 => ⟨S_, .i32⟩
  | 20 => ⟨S_, .f32⟩
  | 21 => ⟨S4x514x1024, .f32⟩
  | 22 => ⟨S4x512x1024, .f32⟩
  | 23 => ⟨S1024x1024x1, .f32⟩
  | 24 => ⟨S1024x1024, .f32⟩
  | 25 => ⟨S4x512x1024, .f32⟩
  | 26 => ⟨S4x512x1024, .f32⟩
  | 27 => ⟨S1024x1024x1, .f32⟩
  | 28 => ⟨S1024x1024, .f32⟩
  | 29 => ⟨S4x512x1024, .f32⟩
  | 30 => ⟨S4x512x1024, .f32⟩
  | 31 => ⟨S4x512x1024, .f32⟩
  | 32 => ⟨S1024x1024x1, .f32⟩
  | 33 => ⟨S1024x1024, .f32⟩
  | 34 => ⟨S4x512x1024, .f32⟩
  | 35 => ⟨S4x512x1024, .f32⟩
  | 36 => ⟨S1x1x1024, .f32⟩
  | 37 => ⟨S4x512x1024, .f32⟩
  | 38 => ⟨S4x512x1024, .f32⟩
  | 39 => ⟨S_, .f32⟩
  | 40 => ⟨S4x512x1024, .f32⟩
  | 41 => ⟨S4x512x1024, .f32⟩
  | 42 => ⟨S20x1024, .f32⟩
  | 43 => ⟨S4x512x20, .f32⟩
  | 44 => ⟨S1x1x20, .f32⟩
  | 45 => ⟨S4x512x20, .f32⟩
  | 46 => ⟨S4x512x20, .f32⟩
  | 47 => ⟨S_, .i32⟩
  | 48 => ⟨S_, .f32⟩
  | 49 => ⟨S4x514x1024, .f32⟩
  | 50 => ⟨S4x512x1024, .f32⟩
  | 51 => ⟨S1024x1024x1, .f32⟩
  | 52 => ⟨S1024x1024, .f32⟩
  | 53 => ⟨S4x512x1024, .f32⟩
  | 54 => ⟨S4x512x1024, .f32⟩
  | 55 => ⟨S1024x1024x1, .f32⟩
  | 56 => ⟨S1024x1024, .f32⟩
  | 57 => ⟨S4x512x1024, .f32⟩
  | 58 => ⟨S4x512x1024, .f32⟩
  | 59 => ⟨S4x512x1024, .f32⟩
  | 60 => ⟨S1024x1024x1, .f32⟩
  | 61 => ⟨S1024x1024, .f32⟩
  | 62 => ⟨S4x512x1024, .f32⟩
  | 63 => ⟨S4x512x1024, .f32⟩
  | 64 => ⟨S1x1x1024, .f32⟩
  | 65 => ⟨S4x512x1024, .f32⟩
  | 66 => ⟨S4x512x1024, .f32⟩
  | 67 => ⟨S_, .f32⟩
  | 68 => ⟨S4x512x1024, .f32⟩
  | 69 => ⟨S4x512x1024, .f32⟩
  | 70 => ⟨S20x1024, .f32⟩
  | 71 => ⟨S4x512x20, .f32⟩
  | 72 => ⟨S1x1x20, .f32⟩
  | 73 => ⟨S4x512x20, .f32⟩
  | 74 => ⟨S4x512x20, .f32⟩
  | 75 => ⟨S4x512x20, .f32⟩
  | 76 => ⟨S_, .i32⟩
  | 77 => ⟨S_, .f32⟩
  | 78 => ⟨S4x514x1024, .f32⟩
  | 79 => ⟨S4x512x1024, .f32⟩
  | 80 => ⟨S1024x1024x1, .f32⟩
  | 81 => ⟨S1024x1024, .f32⟩
  | 82 => ⟨S4x512x1024, .f32⟩
  | 83 => ⟨S4x512x1024, .f32⟩
  | 84 => ⟨S1024x1024x1, .f32⟩
  | 85 => ⟨S1024x1024, .f32⟩
  | 86 => ⟨S4x512x1024, .f32⟩
  | 87 => ⟨S4x512x1024, .f32⟩
  | 88 => ⟨S4x512x1024, .f32⟩
  | 89 => ⟨S1024x1024x1, .f32⟩
  | 90 => ⟨S1024x1024, .f32⟩
  | 91 => ⟨S4x512x1024, .f32⟩
  | 92 => ⟨S4x512x1024, .f32⟩
  | 93 => ⟨S1x1x1024, .f32⟩
  | 94 => ⟨S4x512x1024, .f32⟩
  | 95 => ⟨S4x512x1024, .f32⟩
  | 96 => ⟨S_, .f32⟩
  | 97 => ⟨S4x512x1024, .f32⟩
  | 98 => ⟨S4x512x1024, .f32⟩
  | 99 => ⟨S1x1024, .f32⟩
  | 100 => ⟨S4x512x1, .f32⟩
  | 101 => ⟨S1x1x1, .f32⟩
  | 102 => ⟨S4x512x1, .f32⟩
  | 103 => ⟨S4x512x1, .f32⟩
  | 104 => ⟨S_, .i32⟩
  | 105 => ⟨S_, .f32⟩
  | 106 => ⟨S4x514x1024, .f32⟩
  | 107 => ⟨S4x512x1024, .f32⟩
  | 108 => ⟨S1024x1024x1, .f32⟩
  | 109 => ⟨S1024x1024, .f32⟩
  | 110 => ⟨S4x512x1024, .f32⟩
  | 111 => ⟨S4x512x1024, .f32⟩
  | 112 => ⟨S1024x1024x1, .f32⟩
  | 113 => ⟨S1024x1024, .f32⟩
  | 114 => ⟨S4x512x1024, .f32⟩
  | 115 => ⟨S4x512x1024, .f32⟩
  | 116 => ⟨S4x512x1024, .f32⟩
  | 117 => ⟨S1024x1024x1, .f32⟩
  | 118 => ⟨S1024x1024, .f32⟩
  | 119 => ⟨S4x512x1024, .f32⟩
  | 120 => ⟨S4x512x1024, .f32⟩
  | 121 => ⟨S1x1x1024, .f32⟩
  | 122 => ⟨S4x512x1024, .f32⟩
  | 123 => ⟨S4x512x1024, .f32⟩
  | 124 => ⟨S_, .f32⟩
  | 125 => ⟨S4x512x1024, .f32⟩
  | 126 => ⟨S4x512x1024, .f32⟩
  | 127 => ⟨S1x1024, .f32⟩
  | _ => ⟨S4x512x2048, .f32⟩

abbrev hbmTy0_1 (i : Nat) : BufTy := match i % 128 with
  | 0 => ⟨S4x512x1, .f32⟩
  | 1 => ⟨S1x1x1, .f32⟩
  | 2 => ⟨S4x512x1, .f32⟩
  | 3 => ⟨S4x512x1, .f32⟩
  | 4 => ⟨S4x512x1, .f32⟩
  | 5 => ⟨S_, .f32⟩
  | 6 => ⟨S4x512, .f32⟩
  | 7 => ⟨S_, .f32⟩
  | 8 => ⟨S4x512, .f32⟩
  | 9 => ⟨S4x512, .f32⟩
  | 10 => ⟨S4x512x1, .f32⟩
  | 11 => ⟨S4x512x20, .f32⟩
  | 12 => ⟨S4x512x20, .f32⟩
  | 13 => ⟨S4x512x20, .f32⟩
  | 14 => ⟨S_, .f32⟩
  | 15 => ⟨S4x512, .f32⟩
  | 16 => ⟨S4x512x1, .f32⟩
  | 17 => ⟨S4x512x20, .f32⟩
  | 18 => ⟨S4x512x20, .f32⟩
  | 19 => ⟨S4x512x1, .f32⟩
  | 20 => ⟨S4x512x1, .f32⟩
  | 21 => ⟨S_, .f32⟩
  | 22 => ⟨S4x512x1, .f32⟩
  | 23 => ⟨S4x512x1, .f32⟩
  | 24 => ⟨S_, .f32⟩
  | 25 => ⟨S4x512x1, .f32⟩
  | 26 => ⟨S4x512x1, .f32⟩
  | 27 => ⟨S4x512x20, .f32⟩
  | 28 => ⟨S4x512x20, .f32⟩
  | 29 => ⟨S_, .f32⟩
  | 30 => ⟨S4x512x20, .f32⟩
  | 31 => ⟨S4x512x20, .f32⟩
  | 32 => ⟨S4x20x512, .f32⟩
  | 33 => ⟨S80x512, .f32⟩
  | 34 => ⟨S80x512, .i32⟩
  | 35 => ⟨S80x512, .f32⟩
  | 36 => ⟨S80x512, .f32⟩
  | 37 => ⟨S80x512, .i32⟩
  | 38 => ⟨S80x512, .f32⟩
  | 39 => ⟨S80x1, .i32⟩
  | 40 => ⟨S80x512, .i32⟩
  | 41 => ⟨S80x512, .i1⟩
  | 42 => ⟨S_, .f32⟩
  | 43 => ⟨S80x512, .f32⟩
  | 44 => ⟨S_, .f32⟩
  | 45 => ⟨S_, .f32⟩
  | 46 => ⟨S80x512, .f32⟩
  | 47 => ⟨S80x512, .f32⟩
  | 48 => ⟨S80x1, .f32⟩
  | 49 => ⟨S80x1, .f32⟩
  | 50 => ⟨S_, .f32⟩
  | 51 => ⟨S80x1, .f32⟩
  | 52 => ⟨S_, .f32⟩
  | 53 => ⟨S80x1, .f32⟩
  | 54 => ⟨S_, .i32⟩
  | 55 => ⟨S_, .i32⟩
  | 56 => ⟨S80x512, .i32⟩
  | 57 => ⟨S80x512, .f32⟩
  | 58 => ⟨S80x512, .i32⟩
  | 59 => ⟨S_, .i32⟩
  | 60 => ⟨S_, .i32⟩
  | 61 => ⟨S80x512, .f32⟩
  | 62 => ⟨S80x1, .f32⟩
  | 63 => ⟨S80x1, .f32⟩
  | 64 => ⟨S80x1, .f32⟩
  | 65 => ⟨S80x1, .f32⟩
  | 66 => ⟨S_, .i32⟩
  | 67 => ⟨S_, .i1⟩
  | 68 => ⟨S_, .i32⟩
  | 69 => ⟨S_, .i32⟩
  | 70 => ⟨S80x1, .f32⟩
  | 71 => ⟨S80x1, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S80x1, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S80x1, .f32⟩
  | 88 => ⟨S80x1, .f32⟩
  | 89 => ⟨S80x1, .f32⟩
  | 90 => ⟨S80x1, .f32⟩
  | 91 => ⟨S80x1, .f32⟩
  | 92 => ⟨S80x1, .i1⟩
  | 93 => ⟨S_, .f32⟩
  | 94 => ⟨S80x1, .f32⟩
  | 95 => ⟨S80x1, .f32⟩
  | 96 => ⟨S80x1, .i1⟩
  | 97 => ⟨S_, .f32⟩
  | 98 => ⟨S80x1, .f32⟩
  | 99 => ⟨S80x1, .f32⟩
  | 100 => ⟨S_, .i32⟩
  | 101 => ⟨S_, .i32⟩
  | 102 => ⟨S_, .f32⟩
  | 103 => ⟨S80x1, .f32⟩
  | 104 => ⟨S80x1, .f32⟩
  | 105 => ⟨S80x1, .f32⟩
  | 106 => ⟨S80x1, .f32⟩
  | 107 => ⟨S80x1, .f32⟩
  | 108 => ⟨S80x1, .f32⟩
  | 109 => ⟨S80x1, .f32⟩
  | 110 => ⟨S80x1, .i1⟩
  | 111 => ⟨S80x1, .f32⟩
  | 112 => ⟨S80x1, .f32⟩
  | 113 => ⟨S80x1, .f32⟩
  | 114 => ⟨S80x512, .i32⟩
  | 115 => ⟨S80x512, .i1⟩
  | 116 => ⟨S80x1, .f32⟩
  | 117 => ⟨S80x512, .f32⟩
  | 118 => ⟨S80x512, .f32⟩
  | 119 => ⟨S_, .i32⟩
  | 120 => ⟨S_, .i32⟩
  | 121 => ⟨S_, .f32⟩
  | 122 => ⟨S80, .f32⟩
  | 123 => ⟨S80x1, .f32⟩
  | 124 => ⟨S_, .f32⟩
  | 125 => ⟨S80x1, .f32⟩
  | 126 => ⟨S80x1, .i1⟩
  | 127 => ⟨S_, .f32⟩
  | _ => ⟨S4x512x2048, .f32⟩

abbrev hbmTy0_2 (i : Nat) : BufTy := match i % 128 with
  | 0 => ⟨S80x1, .f32⟩
  | 1 => ⟨S80x1, .f32⟩
  | 2 => ⟨S80x512, .f32⟩
  | 3 => ⟨S_, .f32⟩
  | 4 => ⟨S80, .f32⟩
  | 5 => ⟨S80x1, .f32⟩
  | 6 => ⟨S80x1, .f32⟩
  | 7 => ⟨S80x512, .f32⟩
  | 8 => ⟨S80x512, .i1⟩
  | 9 => ⟨S80x512, .f32⟩
  | 10 => ⟨S80x512, .f32⟩
  | 11 => ⟨S4x20x512, .f32⟩
  | 12 => ⟨S4x512x20, .f32⟩
  | 13 => ⟨S_, .f32⟩
  | 14 => ⟨S4x20, .f32⟩
  | 15 => ⟨S_, .f32⟩
  | 16 => ⟨S4x20, .f32⟩
  | 17 => ⟨S4x20, .i1⟩
  | 18 => ⟨S_, .f32⟩
  | 19 => ⟨S4x20, .f32⟩
  | 20 => ⟨S4x20, .f32⟩
  | 21 => ⟨S_, .f32⟩
  | 22 => ⟨S4x512x20, .f32⟩
  | 23 => ⟨S4x512x20, .f32⟩
  | 24 => ⟨S_, .f32⟩
  | 25 => ⟨S4x20, .f32⟩
  | 26 => ⟨S_, .f32⟩
  | 27 => ⟨S4x20, .f32⟩
  | 28 => ⟨S4x20, .i1⟩
  | 29 => ⟨S_, .f32⟩
  | 30 => ⟨S4x20, .f32⟩
  | 31 => ⟨S4x20, .f32⟩
  | 32 => ⟨S4x512x20, .f32⟩
  | 33 => ⟨S_, .f32⟩
  | 34 => ⟨S4x20, .f32⟩
  | 35 => ⟨S4x20, .f32⟩
  | 36 => ⟨S_, .f32⟩
  | 37 => ⟨S4, .f32⟩
  | 38 => ⟨S_, .f32⟩
  | 39 => ⟨S4, .f32⟩
  | 40 => ⟨S4, .f32⟩
  | 41 => ⟨S4x1, .f32⟩
  | 42 => ⟨S4x20, .f32⟩
  | 43 => ⟨S4x20, .f32⟩
  | 44 => ⟨S4x20, .f32⟩
  | 45 => ⟨S_, .f32⟩
  | 46 => ⟨S4, .f32⟩
  | 47 => ⟨S4x1, .f32⟩
  | 48 => ⟨S4x20, .f32⟩
  | 49 => ⟨S4x20, .f32⟩
  | 50 => ⟨S_, .f32⟩
  | 51 => ⟨S4x512x20, .f32⟩
  | 52 => ⟨S4x512x20, .f32⟩
  | 53 => ⟨S4x512x20, .f32⟩
  | 54 => ⟨S_, .f32⟩
  | 55 => ⟨S4x20, .f32⟩
  | 56 => ⟨S4x20, .f32⟩
  | 57 => ⟨S_, .f32⟩
  | 58 => ⟨S4, .f32⟩
  | 59 => ⟨S_, .f32⟩
  | 60 => ⟨S4, .f32⟩
  | 61 => ⟨S4, .f32⟩
  | 62 => ⟨S4x1, .f32⟩
  | 63 => ⟨S4x20, .f32⟩
  | 64 => ⟨S4x20, .f32⟩
  | 65 => ⟨S4x20, .f32⟩
  | 66 => ⟨S_, .f32⟩
  | 67 => ⟨S4, .f32⟩
  | 68 => ⟨S4x1, .f32⟩
  | 69 => ⟨S4x20, .f32⟩
  | 70 => ⟨S4x20, .f32⟩
  | _ => ⟨S4x512x2048, .f32⟩

abbrev hbmTy (i : Nat) : BufTy := match i / 128 with
  | 0 => hbmTy0_0 i
  | 1 => hbmTy0_1 i
  | 2 => hbmTy0_2 i
  | _ => ⟨S4x512x2048, .f32⟩

abbrev bufTy : (tb : Table) → Fin (tcTables nBuf tb) → BufTy
  | .hbm, ⟨i, _⟩ => hbmTy i
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_c : Ref sig .tc := ⟨.hbm, 19, rfl⟩
abbrev main_call0_v0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_call1_cst : Ref sig .tc := ⟨.hbm, 39, rfl⟩
abbrev main_call1_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_0 : Ref sig .tc := ⟨.hbm, 47, rfl⟩
abbrev main_call2_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call3_cst : Ref sig .tc := ⟨.hbm, 67, rfl⟩
abbrev main_call3_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_1 : Ref sig .tc := ⟨.hbm, 76, rfl⟩
abbrev main_call4_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call5_cst : Ref sig .tc := ⟨.hbm, 96, rfl⟩
abbrev main_call5_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_2 : Ref sig .tc := ⟨.hbm, 104, rfl⟩
abbrev main_call6_v0 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_call7_cst : Ref sig .tc := ⟨.hbm, 124, rfl⟩
abbrev main_call7_v0 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst : Ref sig .tc := ⟨.hbm, 133, rfl⟩
abbrev main_v100 : Ref sig .tc := ⟨.hbm, 134, rfl⟩
abbrev main_cst_3 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_4 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_5 : Ref sig .tc := ⟨.hbm, 149, rfl⟩
abbrev main_v113 : Ref sig .tc := ⟨.hbm, 150, rfl⟩
abbrev main_v114 : Ref sig .tc := ⟨.hbm, 151, rfl⟩
abbrev main_cst_6 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_cst_7 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125_0 : Ref sig .tc := ⟨.hbm, 164, rfl⟩
abbrev main_v125_1 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_8 : Ref sig .tc := ⟨.hbm, 170, rfl⟩
abbrev main_v130 : Ref sig .tc := ⟨.hbm, 171, rfl⟩
abbrev main_cst_9 : Ref sig .tc := ⟨.hbm, 172, rfl⟩
abbrev main_call8_v0 : Ref sig .tc := ⟨.hbm, 173, rfl⟩
abbrev main_call8_v1 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_10 : Ref sig .tc := ⟨.hbm, 178, rfl⟩
abbrev main_v134 : Ref sig .tc := ⟨.hbm, 179, rfl⟩
abbrev main_cst_11 : Ref sig .tc := ⟨.hbm, 180, rfl⟩
abbrev main_v135 : Ref sig .tc := ⟨.hbm, 181, rfl⟩
abbrev main_c_12 : Ref sig .tc := ⟨.hbm, 182, rfl⟩
abbrev main_c_13 : Ref sig .tc := ⟨.hbm, 183, rfl⟩
abbrev main_v136_0 : Ref sig .tc := ⟨.hbm, 184, rfl⟩
abbrev main_v136_1 : Ref sig .tc := ⟨.hbm, 185, rfl⟩
abbrev main_v136_2 : Ref sig .tc := ⟨.hbm, 186, rfl⟩
abbrev main_v136_3 : Ref sig .tc := ⟨.hbm, 187, rfl⟩
abbrev main_v136_4 : Ref sig .tc := ⟨.hbm, 188, rfl⟩
abbrev main_v136_5 : Ref sig .tc := ⟨.hbm, 189, rfl⟩
abbrev main_v136_6 : Ref sig .tc := ⟨.hbm, 190, rfl⟩
abbrev main_v136_7 : Ref sig .tc := ⟨.hbm, 191, rfl⟩
abbrev main_v136_8 : Ref sig .tc := ⟨.hbm, 192, rfl⟩
abbrev main_v136_9 : Ref sig .tc := ⟨.hbm, 193, rfl⟩
abbrev main_while0c_c_43 : Ref sig .tc := ⟨.hbm, 194, rfl⟩
abbrev main_while0c_v195 : Ref sig .tc := ⟨.hbm, 195, rfl⟩
abbrev main_while0b_c_43 : Ref sig .tc := ⟨.hbm, 196, rfl⟩
abbrev main_while0b_v195 : Ref sig .tc := ⟨.hbm, 197, rfl⟩
abbrev main_while0b_v196 : Ref sig .tc := ⟨.hbm, 198, rfl⟩
abbrev main_while0b_v197 : Ref sig .tc := ⟨.hbm, 199, rfl⟩
abbrev main_while0b_c_44 : Ref sig .tc := ⟨.hbm, 200, rfl⟩
abbrev main_while0b_v198 : Ref sig .tc := ⟨.hbm, 201, rfl⟩
abbrev main_while0b_v199 : Ref sig .tc := ⟨.hbm, 202, rfl⟩
abbrev main_while0b_c_45 : Ref sig .tc := ⟨.hbm, 203, rfl⟩
abbrev main_while0b_v200 : Ref sig .tc := ⟨.hbm, 204, rfl⟩
abbrev main_while0b_v201 : Ref sig .tc := ⟨.hbm, 205, rfl⟩
abbrev main_while0b_c_46 : Ref sig .tc := ⟨.hbm, 206, rfl⟩
abbrev main_while0b_v202 : Ref sig .tc := ⟨.hbm, 207, rfl⟩
abbrev main_while0b_c_47 : Ref sig .tc := ⟨.hbm, 208, rfl⟩
abbrev main_while0b_v203 : Ref sig .tc := ⟨.hbm, 209, rfl⟩
abbrev main_while0b_v204 : Ref sig .tc := ⟨.hbm, 210, rfl⟩
abbrev main_while0b_c_48 : Ref sig .tc := ⟨.hbm, 211, rfl⟩
abbrev main_while0b_v205 : Ref sig .tc := ⟨.hbm, 212, rfl⟩
abbrev main_while0b_v206 : Ref sig .tc := ⟨.hbm, 213, rfl⟩
abbrev main_while0b_c_49 : Ref sig .tc := ⟨.hbm, 214, rfl⟩
abbrev main_while0b_v207 : Ref sig .tc := ⟨.hbm, 215, rfl⟩
abbrev main_while0b_v208 : Ref sig .tc := ⟨.hbm, 216, rfl⟩
abbrev main_while0b_v209 : Ref sig .tc := ⟨.hbm, 217, rfl⟩
abbrev main_while0b_v210 : Ref sig .tc := ⟨.hbm, 218, rfl⟩
abbrev main_while0b_v211 : Ref sig .tc := ⟨.hbm, 219, rfl⟩
abbrev main_while0b_v212 : Ref sig .tc := ⟨.hbm, 220, rfl⟩
abbrev main_while0b_cst_50 : Ref sig .tc := ⟨.hbm, 221, rfl⟩
abbrev main_while0b_v213 : Ref sig .tc := ⟨.hbm, 222, rfl⟩
abbrev main_while0b_v214 : Ref sig .tc := ⟨.hbm, 223, rfl⟩
abbrev main_while0b_v215 : Ref sig .tc := ⟨.hbm, 224, rfl⟩
abbrev main_while0b_cst_51 : Ref sig .tc := ⟨.hbm, 225, rfl⟩
abbrev main_while0b_v216 : Ref sig .tc := ⟨.hbm, 226, rfl⟩
abbrev main_while0b_v217 : Ref sig .tc := ⟨.hbm, 227, rfl⟩
abbrev main_while0b_c_52 : Ref sig .tc := ⟨.hbm, 228, rfl⟩
abbrev main_while0b_v218 : Ref sig .tc := ⟨.hbm, 229, rfl⟩
abbrev main_while0b_v219 : Ref sig .tc := ⟨.hbm, 230, rfl⟩
abbrev main_while0b_v220 : Ref sig .tc := ⟨.hbm, 231, rfl⟩
abbrev main_while0b_v221 : Ref sig .tc := ⟨.hbm, 232, rfl⟩
abbrev main_while0b_v222 : Ref sig .tc := ⟨.hbm, 233, rfl⟩
abbrev main_while0b_v223 : Ref sig .tc := ⟨.hbm, 234, rfl⟩
abbrev main_while0b_v224 : Ref sig .tc := ⟨.hbm, 235, rfl⟩
abbrev main_while0b_v225 : Ref sig .tc := ⟨.hbm, 236, rfl⟩
abbrev main_while0b_v226 : Ref sig .tc := ⟨.hbm, 237, rfl⟩
abbrev main_while0b_v227 : Ref sig .tc := ⟨.hbm, 238, rfl⟩
abbrev main_while0b_v228 : Ref sig .tc := ⟨.hbm, 239, rfl⟩
abbrev main_while0b_v229 : Ref sig .tc := ⟨.hbm, 240, rfl⟩
abbrev main_while0b_v230 : Ref sig .tc := ⟨.hbm, 241, rfl⟩
abbrev main_while0b_v231 : Ref sig .tc := ⟨.hbm, 242, rfl⟩
abbrev main_while0b_v232 : Ref sig .tc := ⟨.hbm, 243, rfl⟩
abbrev main_while0b_v233 : Ref sig .tc := ⟨.hbm, 244, rfl⟩
abbrev main_while0b_call11_v0 : Ref sig .tc := ⟨.hbm, 245, rfl⟩
abbrev main_while0b_v234 : Ref sig .tc := ⟨.hbm, 246, rfl⟩
abbrev main_while0b_c_53 : Ref sig .tc := ⟨.hbm, 247, rfl⟩
abbrev main_while0b_v235 : Ref sig .tc := ⟨.hbm, 248, rfl⟩
abbrev main_cst_14 : Ref sig .tc := ⟨.hbm, 249, rfl⟩
abbrev main_v137 : Ref sig .tc := ⟨.hbm, 250, rfl⟩
abbrev main_v138 : Ref sig .tc := ⟨.hbm, 251, rfl⟩
abbrev main_cst_15 : Ref sig .tc := ⟨.hbm, 252, rfl⟩
abbrev main_v139 : Ref sig .tc := ⟨.hbm, 253, rfl⟩
abbrev main_v140 : Ref sig .tc := ⟨.hbm, 254, rfl⟩
abbrev main_cst_16 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_cst_17 : Ref sig .tc := ⟨.hbm, 259, rfl⟩
abbrev main_v144 : Ref sig .tc := ⟨.hbm, 260, rfl⟩
abbrev main_v145 : Ref sig .tc := ⟨.hbm, 261, rfl⟩
abbrev main_v146 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_cst_18 : Ref sig .tc := ⟨.hbm, 269, rfl⟩
abbrev main_v153 : Ref sig .tc := ⟨.hbm, 270, rfl⟩
abbrev main_cst_19 : Ref sig .tc := ⟨.hbm, 271, rfl⟩
abbrev main_v154 : Ref sig .tc := ⟨.hbm, 272, rfl⟩
abbrev main_v155 : Ref sig .tc := ⟨.hbm, 273, rfl⟩
abbrev main_cst_20 : Ref sig .tc := ⟨.hbm, 274, rfl⟩
abbrev main_v156 : Ref sig .tc := ⟨.hbm, 275, rfl⟩
abbrev main_v157 : Ref sig .tc := ⟨.hbm, 276, rfl⟩
abbrev main_cst_21 : Ref sig .tc := ⟨.hbm, 277, rfl⟩
abbrev main_v158 : Ref sig .tc := ⟨.hbm, 278, rfl⟩
abbrev main_v159 : Ref sig .tc := ⟨.hbm, 279, rfl⟩
abbrev main_cst_22 : Ref sig .tc := ⟨.hbm, 280, rfl⟩
abbrev main_v160 : Ref sig .tc := ⟨.hbm, 281, rfl⟩
abbrev main_cst_23 : Ref sig .tc := ⟨.hbm, 282, rfl⟩
abbrev main_v161 : Ref sig .tc := ⟨.hbm, 283, rfl⟩
abbrev main_v162 : Ref sig .tc := ⟨.hbm, 284, rfl⟩
abbrev main_cst_24 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_cst_25 : Ref sig .tc := ⟨.hbm, 289, rfl⟩
abbrev main_v166 : Ref sig .tc := ⟨.hbm, 290, rfl⟩
abbrev main_v167 : Ref sig .tc := ⟨.hbm, 291, rfl⟩
abbrev main_cst_26 : Ref sig .tc := ⟨.hbm, 292, rfl⟩
abbrev main_v168 : Ref sig .tc := ⟨.hbm, 293, rfl⟩
abbrev main_cst_27 : Ref sig .tc := ⟨.hbm, 294, rfl⟩
abbrev main_v169 : Ref sig .tc := ⟨.hbm, 295, rfl⟩
abbrev main_v170 : Ref sig .tc := ⟨.hbm, 296, rfl⟩
abbrev main_v171 : Ref sig .tc := ⟨.hbm, 297, rfl⟩
abbrev main_v172 : Ref sig .tc := ⟨.hbm, 298, rfl⟩
abbrev main_v173 : Ref sig .tc := ⟨.hbm, 299, rfl⟩
abbrev main_v174 : Ref sig .tc := ⟨.hbm, 300, rfl⟩
abbrev main_cst_28 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_cst_29 : Ref sig .tc := ⟨.hbm, 306, rfl⟩
abbrev main_v179 : Ref sig .tc := ⟨.hbm, 307, rfl⟩
abbrev main_v180 : Ref sig .tc := ⟨.hbm, 308, rfl⟩
abbrev main_v181 : Ref sig .tc := ⟨.hbm, 309, rfl⟩
abbrev main_cst_30 : Ref sig .tc := ⟨.hbm, 310, rfl⟩
abbrev main_v182 : Ref sig .tc := ⟨.hbm, 311, rfl⟩
abbrev main_v183 : Ref sig .tc := ⟨.hbm, 312, rfl⟩
abbrev main_cst_31 : Ref sig .tc := ⟨.hbm, 313, rfl⟩
abbrev main_v184 : Ref sig .tc := ⟨.hbm, 314, rfl⟩
abbrev main_cst_32 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_cst_33 : Ref sig .tc := ⟨.hbm, 322, rfl⟩
abbrev main_v191 : Ref sig .tc := ⟨.hbm, 323, rfl⟩
abbrev main_v192 : Ref sig .tc := ⟨.hbm, 324, rfl⟩
abbrev main_v193 : Ref sig .tc := ⟨.hbm, 325, rfl⟩
abbrev main_v194 : Ref sig .tc := ⟨.hbm, 326, rfl⟩

abbrev nD : Nat := 1
abbrev τ : Topo := Topo.v7x

variable {F : FTy → Type} [FloatOps F]

abbrev main_while0_count : Scf.Loop 32 := ⟨0#32, 510#32, 1#32⟩
-- ==== Proof.Halves.lean ====
/- The five regions of `@main` whose bodies have no loop, each at a parameter `V`: the buffer contents when the region
    is entered. Per region: each window's block at a grid point, what the body leaves in each output window, the body's
    triple, the proof data of the pipeline and its body obligation. The clustering region, which loops, is in Cluster.lean.  -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-! # REGION 0 of @main: custom_call 0, `cc0__enc_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x1x514x1024 := Rect.unit (s := S1x1x514x1024) ![0, 0, 0, 0] S1x1x512x1024.size inb_S1x1x514x1024_S1x1x512x1024_0_0_0_0
abbrev r0_1 : Rect S1x1x514x1024 := Rect.unit (s := S1x1x514x1024) ![0, 0, 1, 0] S1x1x512x1024.size inb_S1x1x514x1024_S1x1x512x1024_0_0_1_0
abbrev r0_2 : Rect S1x1x514x1024 := Rect.unit (s := S1x1x514x1024) ![0, 0, 2, 0] S1x1x512x1024.size inb_S1x1x514x1024_S1x1x512x1024_0_0_2_0
abbrev r0_3 : Rect S1x3x1024x1024 := Rect.unit (s := S1x3x1024x1024) ![0, 0, 0, 0] S1x1x1024x1024.size inb_S1x3x1024x1024_S1x1x1024x1024_0_0_0_0
abbrev r0_4 : Rect S1x3x1024x1024 := Rect.unit (s := S1x3x1024x1024) ![0, 1, 0, 0] S1x1x1024x1024.size inb_S1x3x1024x1024_S1x1x1024x1024_0_1_0_0
abbrev r0_5 : Rect S1x3x1024x1024 := Rect.unit (s := S1x3x1024x1024) ![0, 2, 0, 0] S1x1x1024x1024.size inb_S1x3x1024x1024_S1x1x1024x1024_0_2_0_0
abbrev r0_6 : Rect S1x1x1024 := Rect.unit (s := S1x1x1024) ![0, 0, 0] S1x1x1024.size inb_S1x1x1024_S1x1x1024_0_0_0
abbrev r0_7 : Rect S1x1024x32 := Rect.unit (s := S1x1024x32) ![0, 0, 0] S1x1024x32.size inb_S1x1024x32_S1x1024x32_0_0_0
abbrev r0_8 : Rect S1x1x32 := Rect.unit (s := S1x1x32) ![0, 0, 0] S1x1x32.size inb_S1x1x32_S1x1x32_0_0_0
abbrev r0_9 : Rect S1x1x512x32 := Rect.unit (s := S1x1x512x32) ![0, 0, 0, 0] S1x1x512x32.size inb_S1x1x512x32_S1x1x512x32_0_0_0_0

/-! ## What the body leaves in each output window's buffer -/

/-- Window 5's staging buffer after the body, from the input windows' blocks: its 1 store as pieces, LAST
    FIRST. -/
def out0_5 (x0 : Vec F S1x1x514x1024 .f32) (x1 : Vec F S1x3x1024x1024 .f32) (x2 : Vec F S1x1x1024 .f32) (x3 : Vec F S1x1024x32 .f32) (x4 : Vec F S1x1x32 .f32) : Vec F S1x1x512x32 .f32 :=
  View.canon [⟨r0_9, k0_pay1 (k0_pay2 (View.ld x0 r0_0) (View.ld x0 r0_1) (View.ld x0 r0_2) (View.ld x1 r0_3) (View.ld x1 r0_4) (View.ld x1 r0_5) (View.ld x2 r0_6)) (View.ld x3 r0_7) (View.ld x4 r0_8)⟩]

theorem cover0_5 (p0 : Vec F S1x1x512x32 .f32) (y : S1x1x512x32.Idx) :
    ∃ pc ∈ ([⟨r0_9, p0⟩] : List (View.Piece (Elt F) S1x1x512x32 .f32)), y ∈ pc.1.set :=
  View.cover_of_tiled [⟨r0_9, p0⟩] S1x1x512x32.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg2 : Memref sig .tc .vmem S1x1x514x1024 .f32) (harg2 : arg2.IsWhole) (arg3 : Memref sig .tc .vmem S1x3x1024x1024 .f32) (harg3 : arg3.IsWhole) (arg4 : Memref sig .tc .vmem S1x1x1024 .f32) (harg4 : arg4.IsWhole) (arg5 : Memref sig .tc .vmem S1x1024x32 .f32) (harg5 : arg5.IsWhole) (arg6 : Memref sig .tc .vmem S1x1x32 .f32) (harg6 : arg6.IsWhole) (arg7 : Memref sig .tc .vmem S1x1x512x32 .f32) (harg7 : arg7.IsWhole)
    (x0 : Vec F S1x1x514x1024 .f32) (x1 : Vec F S1x3x1024x1024 .f32) (x2 : Vec F S1x1x1024 .f32) (x3 : Vec F S1x1024x32 .f32) (x4 : Vec F S1x1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out0_5 x0 x1 x2 x3 x4)) -∗ K ⟨⟩))
      ⊢ wp frame (wpE (defs₀ (F := F)) Variants.none c none) E (cc0__enc_body i arg2 harg2 arg3 harg3 arg4 harg4 arg5 harg5 arg6 harg6 arg7 harg7) K := by
  simp only [cc0__enc_body_eq_skeleton]; unfold cc0__enc_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core `c`: the arrays as the region finds them (`V`); after the body at
    point `t` each input's buffer at its block and each output's at `out0_W` of the input blocks; the invariant the
    class's; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__combine_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S4x1x512x32 := Rect.unit (s := S4x1x512x32) ![0, 0, 0, 0] S1x1x512x32.size inb_S4x1x512x32_S1x1x512x32_0_0_0_0
abbrev r1_1 : Rect S4x1x512x32 := Rect.unit (s := S4x1x512x32) ![1, 0, 0, 0] S1x1x512x32.size inb_S4x1x512x32_S1x1x512x32_1_0_0_0
abbrev r1_2 : Rect S4x1x512x32 := Rect.unit (s := S4x1x512x32) ![2, 0, 0, 0] S1x1x512x32.size inb_S4x1x512x32_S1x1x512x32_2_0_0_0
abbrev r1_3 : Rect S4x1x512x32 := Rect.unit (s := S4x1x512x32) ![3, 0, 0, 0] S1x1x512x32.size inb_S4x1x512x32_S1x1x512x32_3_0_0_0
abbrev r1_4 : Rect S1x512x32 := Rect.unit (s := S1x512x32) ![0, 0, 0] S1x512x32.size inb_S1x512x32_S1x512x32_0_0_0

/-! ## What the body leaves in each output window's buffer -/

/-! ### Values of the body that the stores' payloads, spelt out, would write more than once

    Each is a vector the body binds (often a part call's result), stated over the input windows' blocks and
    numbered on from the skeleton's payload functions (`k1_pay9` …, after `k1_pay8`), so that
    `out1_W` and the values after it name it instead of spelling it out ; the comment after each is the printed function's
    name for the value (a count appended where that name is bound again). -/

def k1_pay9 (x0 : Vec F S4x1x512x32 .f32) : IVec S512x32 1 :=
  k1_pay5 -- `v12`

/-- Window 1's staging buffer after the body, from the input windows' blocks: its 1 store as pieces, LAST
    FIRST. -/
def out1_1 (x0 : Vec F S4x1x512x32 .f32) : Vec F S1x512x32 .f32 :=
  View.canon [⟨r1_4, k1_pay1 (k1_pay9 x0) (k1_pay6 (View.ld x0 r1_0) (View.ld x0 r1_1)) (k1_pay8 (View.ld x0 r1_2) (View.ld x0 r1_3))⟩]

theorem cover1_1 (p0 : Vec F S1x512x32 .f32) (y : S1x512x32.Idx) :
    ∃ pc ∈ ([⟨r1_4, p0⟩] : List (View.Piece (Elt F) S1x512x32 .f32)), y ∈ pc.1.set :=
  View.cover_of_tiled [⟨r1_4, p0⟩] S1x512x32.size (by rfl) y

/-- Window 2's staging buffer after the body, from the input windows' blocks: its 1 store as pieces, LAST
    FIRST. -/
def out1_2 (x0 : Vec F S4x1x512x32 .f32) : Vec F S1x512x32 .f32 :=
  View.canon [⟨r1_4, k1_pay2 (k1_pay4 (View.ld x0 r1_0) (View.ld x0 r1_1)) (k1_pay9 x0)⟩]

theorem cover1_2 (p0 : Vec F S1x512x32 .f32) (y : S1x512x32.Idx) :
    ∃ pc ∈ ([⟨r1_4, p0⟩] : List (View.Piece (Elt F) S1x512x32 .f32)), y ∈ pc.1.set :=
  View.cover_of_tiled [⟨r1_4, p0⟩] S1x512x32.size (by rfl) y

/-- Window 3's staging buffer after the body, from the input windows' blocks: its 1 store as pieces, LAST
    FIRST. -/
def out1_3 (x0 : Vec F S4x1x512x32 .f32) : Vec F S1x512x32 .f32 :=
  View.canon [⟨r1_4, k1_pay3 (k1_pay7 (View.ld x0 r1_2) (View.ld x0 r1_3))⟩]

theorem cover1_3 (p0 : Vec F S1x512x32 .f32) (y : S1x512x32.Idx) :
    ∃ pc ∈ ([⟨r1_4, p0⟩] : List (View.Piece (Elt F) S1x512x32 .f32)), y ∈ pc.1.set :=
  View.cover_of_tiled [⟨r1_4, p0⟩] S1x512x32.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg1 : Memref sig .tc .vmem S4x1x512x32 .f32) (harg1 : arg1.IsWhole) (arg2 : Memref sig .tc .vmem S1x512x32 .f32) (harg2 : arg2.IsWhole) (arg3 : Memref sig .tc .vmem S1x512x32 .f32) (harg3 : arg3.IsWhole) (arg4 : Memref sig .tc .vmem S1x512x32 .f32) (harg4 : arg4.IsWhole)
    (x0 : Vec F S4x1x512x32 .f32) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (out1_1 x0) ∗ owns (c : Thread nD τ) arg3 fullShare (out1_2 x0) ∗ owns (c : Thread nD τ) arg4 fullShare (out1_3 x0)) -∗ K ⟨⟩))
      ⊢ wp frame (wpE (defs₀ (F := F)) Variants.none c none) E (cc1__combine_body i arg1 harg1 arg2 harg2 arg3 harg3 arg4 harg4) K := by
  simp only [cc1__combine_body_eq_skeleton]; unfold cc1__combine_body_skel
  simp only [k1_part1_eq_skeleton]
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover1_1 _)).trans ?_
    rfl
  isplitl [H2]
  · iexists _; isplitr
    swap; · iexact H2
    ipureintro
    refine (View.read_writes_eq_canon _ _ _ (cover1_2 _)).trans ?_
    rfl
  iexists _; isplitr
  swap; · iexact H3
  ipureintro
  refine (View.read_writes_eq_canon _ _ _ (cover1_3 _)).trans ?_
  rfl

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
    | ⟨3, _⟩ => out1_3 (iblk1 V c 0 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]
theorem after1_3 (c : Dev nD) (t : Fin cfg1.N) : (dat1 V c).after 3 t = out1_3 (iblk1 V c 0 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__rank_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev r2_0 : Rect S1x1x512 := Rect.unit (s := S1x1x512) ![0, 0, 0] S1x1x512.size inb_S1x1x512_S1x1x512_0_0_0
abbrev r2_1 : Rect S1x512x1 := Rect.unit (s := S1x512x1) ![0, 0, 0] S1x512x1.size inb_S1x512x1_S1x512x1_0_0_0

/-! ## What the body leaves in each output window's buffer -/

/-- Window 2's staging buffer after the body, from the input windows' blocks: its 1 store as pieces, LAST
    FIRST. -/
def out2_2 (x0 : Vec F S1x1x512 .f32) (x1 : Vec F S1x512x1 .f32) : Vec F S1x512x1 .f32 :=
  View.canon [⟨r2_1, k2_pay3 (View.ld x0 r2_0) (View.ld x1 r2_1)⟩]

theorem cover2_2 (p0 : Vec F S1x512x1 .f32) (y : S1x512x1.Idx) :
    ∃ pc ∈ ([⟨r2_1, p0⟩] : List (View.Piece (Elt F) S1x512x1 .f32)), y ∈ pc.1.set :=
  View.cover_of_tiled [⟨r2_1, p0⟩] S1x512x1.size (by rfl) y

/-- Window 3's staging buffer after the body, from the input windows' blocks: its 1 store as pieces, LAST
    FIRST. -/
def out2_3 (x0 : Vec F S1x1x512 .f32) (x1 : Vec F S1x512x1 .f32) : Vec F S1x512x1 .f32 :=
  View.canon [⟨r2_1, k2_pay4 (View.ld x0 r2_0) (View.ld x1 r2_1)⟩]

theorem cover2_3 (p0 : Vec F S1x512x1 .f32) (y : S1x512x1.Idx) :
    ∃ pc ∈ ([⟨r2_1, p0⟩] : List (View.Piece (Elt F) S1x512x1 .f32)), y ∈ pc.1.set :=
  View.cover_of_tiled [⟨r2_1, p0⟩] S1x512x1.size (by rfl) y

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs, through every part call. -/
theorem sound_kernel2 (c : Dev nD) (E : Set ℕ) (i : grid2.Coords) (arg1 : Memref sig .tc .vmem S1x1x512 .f32) (harg1 : arg1.IsWhole) (arg2 : Memref sig .tc .vmem S1x512x1 .f32) (harg2 : arg2.IsWhole) (arg3 : Memref sig .tc .vmem S1x512x1 .f32) (harg3 : arg3.IsWhole) (arg4 : Memref sig .tc .vmem S1x512x1 .f32) (harg4 : arg4.IsWhole)
    (x0 : Vec F S1x1x512 .f32) (x1 : Vec F S1x512x1 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out2_2 x0 x1) ∗ owns (c : Thread nD τ) arg4 fullShare (out2_3 x0 x1)) -∗ K ⟨⟩))
      ⊢ wp frame (wpE (defs₀ (F := F)) Variants.none c none) E (cc2__rank_body i arg1 harg1 arg2 harg2 arg3 harg3 arg4 harg4) K := by
  simp only [cc2__rank_body_eq_skeleton]; unfold cc2__rank_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2_2 _)
  iexists _; isplitr
  swap; · iexact H3
  ipureintro
  exact View.read_writes_eq_canon _ _ _ (cover2_3 _)

/-! ## The pipeline's proof data -/

/-- The proof data of pipeline 2 on core `c`: the arrays as the region finds them (`V`); after the body at
    point `t` each input's buffer at its block and each output's at `out2_W` of the input blocks; the invariant the
    class's; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
    | ⟨3, _⟩ => out2_3 (iblk2 V c 0 t) (iblk2 V c 1 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]
theorem after2_3 (c : Dev nD) (t : Fin cfg2.N) : (dat2 V c).after 3 t = out2_3 (iblk2 V c 0 t) (iblk2 V c 1 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 4 of @main: custom_call 4, `cc4__unsort_body` (pipeline 4), at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S1x512x1 := Rect.unit (s := S1x512x1) ![0, 0, 0] S1x512x1.size inb_S1x512x1_S1x512x1_0_0_0
abbrev r4_1 : Rect S1x1x512 := Rect.unit (s := S1x1x512) ![0, 0, 0] S1x1x512.size inb_S1x1x512_S1x1x512_0_0_0

/-! ## What the body leaves in each output window's buffer -/

/-- Window 2's staging buffer after the body, from the input windows' blocks: its 1 store as pieces, LAST
    FIRST. -/
def out4_2 (x0 : Vec F S1x512x1 .f32) (x1 : Vec F S1x1x512 .f32) : Vec F S1x512x1 .f32 :=
  View.canon [⟨r4_0, k4_pay1 (View.ld x0 r4_0) (View.ld x1 r4_1)⟩]

theorem cover4_2 (p0 : Vec F S1x512x1 .f32) (y : S1x512x1.Idx) :
    ∃ pc ∈ ([⟨r4_0, p0⟩] : List (View.Piece (Elt F) S1x512x1 .f32)), y ∈ pc.1.set :=
  View.cover_of_tiled [⟨r4_0, p0⟩] S1x512x1.size (by rfl) y

/-! ## The body's triple -/

set_option maxHeartbeats 1000000 in
/-- The kernel body on whole staging memrefs, the inputs' at read contents `xW` and the outputs' at anything, runs to
    the continuation holding the inputs' as they were and each output's at `out4_W` of the inputs': the printed functions
    are their skeletons (`Gen.*_eq_skeleton`), which `sl_exec` runs, through every part call. -/
theorem sound_kernel4 (c : Dev nD) (E : Set ℕ) (i : grid4.Coords) (arg1 : Memref sig .tc .vmem S1x512x1 .f32) (harg1 : arg1.IsWhole) (arg2 : Memref sig .tc .vmem S1x1x512 .f32) (harg2 : arg2.IsWhole) (arg3 : Memref sig .tc .vmem S1x512x1 .f32) (harg3 : arg3.IsWhole)
    (x0 : Vec F S1x512x1 .f32) (x1 : Vec F S1x1x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__unsort_body i arg1 harg1 arg2 harg2 arg3 harg3) K := by
  simp only [cc4__unsort_body_eq_skeleton]; unfold cc4__unsort_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of pipeline 4 on core `c`: the arrays as the region finds them (`V`); after the body at
    point `t` each input's buffer at its block and each output's at `out4_W` of the input blocks; the invariant the
    class's; nothing owed;
    full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents, by projecting the definition (`dsimp`): a region record cites
    this for its arrays rather than have Lean unfold `V`, the fold through @main up to the region's entry. -/
theorem A_eq4 (c : Dev nD) (w : Fin cfg4.W) : (dat4 V c).A w = V c (Pipeline.arrRef spec4 w) := by
  dsimp only [dat4]

/-- What the body leaves, window by window (the proof data's `match` reduced by `dsimp`, never `rfl`: Lib/Pipeline.lean `Dat`). -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point, fetched there or not (`beforeK_W_of`). -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks (`before4_W`), so `sound_kernel4` applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point: the body's triple restated. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-! # REGION 5 of @main: custom_call 5, `cc5__final_body` (pipeline 5), at the entry contents `V` -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

abbrev r5_0 : Rect S1x512x32 := Rect.unit (s := S1x512x32) ![0, 0, 0] S1x512x32.size inb_S1x512x32_S1x512x32_0_0_0
abbrev r5_1 : Rect S1x512x20 := Rect.unit (s := S1x512x20) ![0, 0, 0] S1x512x20.size inb_S1x512x20_S1x512x20_0_0_0
abbrev r5_2 : Rect S1x1x20 := Rect.unit (s := S1x1x20) ![0, 0, 0] S1x1x20.size inb_S1x1x20_S1x1x20_0_0_0

/-! ## What the body leaves in each output window's buffer -/

/-! ### Values of the body that the stores' payloads, spelt out, would write more than once

    Each is a vector the body binds (often a part call's result), stated over the input windows' blocks and
    numbered on from the skeleton's payload functions (`k5_pay8` …, after `k5_pay7`), so that
    `out5_W` and the values after it name it instead of spelling it out ; the comment after each is the printed function's
    name for the value (a count appended where that name is bound again). -/

def k5_pay8 (x0 : Vec F S1x512x32 .f32) (x1 : Vec F S1x512x20 .f32) : IVec S1x20 1 :=
  k5_pay5 -- `v7`

/-- Window 2's staging buffer after the body, from the input windows' blocks: its 1 store as pieces, LAST
    FIRST. -/
def out5_2 (x0 : Vec F S1x512x32 .f32) (x1 : Vec F S1x512x20 .f32) : Vec F S1x1x20 .f32 :=
  View.canon [⟨r5_2, k5_pay1 (k5_pay8 x0 x1) (k5_pay7 (View.ld x0 r5_0) (View.ld x1 r5_1)) (Scalar.ofBits .f32 0x00000000#32)⟩]

theorem cover5_2 (p0 : Vec F S1x1x20 .f32) (y : S1x1x20.Idx) :
    ∃ pc ∈ ([⟨r5_2, p0⟩] : List (View.Piece (Elt F) S1x1x20 .f32)), y ∈ pc.1.set :=
  View.cover_of_tiled [⟨r5_2, p0⟩] S1x1x20.size (by rfl) y

/-- Window 3's staging buffer after the body, from the input windows' blocks: its 1 store as pieces, LAST
    FIRST. -/
def out5_3 (x0 : Vec F S1x512x32 .f32) (x1 : Vec F S1x512x20 .f32) : Vec F S1x1x20 .f32 :=
  View.canon [⟨r5_2, k5_pay2 (k5_pay8 x0 x1) (k5_pay6 (View.ld x0 r5_0) (View.ld x1 r5_1))⟩]

theorem cover5_3 (p0 : Vec F S1x1x20 .f32) (y : S1x1x20.Idx) :
    ∃ pc ∈ ([⟨r5_2, p0⟩] : List (View.Piece (Elt F) S1x1x20 .f32)), y ∈ pc.1.set :=
  View.cover_of_tiled [⟨r5_2, p0⟩] S1x1x20.size (by rfl) y

/-! ## The body's triple -/

set_option maxHeartbeats 1000000 in
/-- The kernel body on whole staging memrefs, the inputs' at read contents `xW` and the outputs' at anything, runs to
    the continuation holding the inputs' as they were and each output's at `out5_W` of the inputs': the printed functions
    are their skeletons (`Gen.*_eq_skeleton`), which `sl_exec` runs, through every part call. -/
theorem sound_kernel5 (c : Dev nD) (E : Set ℕ) (i : grid5.Coords) (arg1 : Memref sig .tc .vmem S1x512x32 .f32) (harg1 : arg1.IsWhole) (arg2 : Memref sig .tc .vmem S1x512x20 .f32) (harg2 : arg2.IsWhole) (arg3 : Memref sig .tc .vmem S1x1x20 .f32) (harg3 : arg3.IsWhole) (arg4 : Memref sig .tc .vmem S1x1x20 .f32) (harg4 : arg4.IsWhole)
    (x0 : Vec F S1x512x32 .f32) (x1 : Vec F S1x512x20 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out5_2 x0 x1) ∗ owns (c : Thread nD τ) arg4 fullShare (out5_3 x0 x1)) -∗ K ⟨⟩))
      ⊢ wp frame (wpE (defs₀ (F := F)) Variants.none c none) E (cc5__final_body i arg1 harg1 arg2 harg2 arg3 harg3 arg4 harg4) K := by
  simp only [cc5__final_body_eq_skeleton]; unfold cc5__final_body_skel
  simp only [k5_part1_eq_skeleton]
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover5_2 _)).trans ?_
    rfl
  iexists _; isplitr
  swap; · iexact H3
  ipureintro
  refine (View.read_writes_eq_canon _ _ _ (cover5_3 _)).trans ?_
  rfl

/-! ## The pipeline's proof data -/

/-- The proof data of pipeline 5 on core `c`: the arrays as the region finds them (`V`); after the body at
    point `t` each input's buffer at its block and each output's at `out5_W` of the input blocks; the invariant the
    class's; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
    | ⟨3, _⟩ => out5_3 (iblk5 V c 0 t) (iblk5 V c 1 t)
  Φ _ := Pipeline.ΦA spec5 c
  q _ := fullShare
  owed _ := 0

/-- The proof data's arrays are the region-entry contents, by projecting the definition (`dsimp`): a region record cites
    this for its arrays rather than have Lean unfold `V`, the fold through @main up to the region's entry. -/
theorem A_eq5 (c : Dev nD) (w : Fin cfg5.W) : (dat5 V c).A w = V c (Pipeline.arrRef spec5 w) := by
  dsimp only [dat5]

/-- What the body leaves, window by window (the proof data's `match` reduced by `dsimp`, never `rfl`: Lib/Pipeline.lean `Dat`). -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]
theorem after5_3 (c : Dev nD) (t : Fin cfg5.N) : (dat5 V c).after 3 t = out5_3 (iblk5 V c 0 t) (iblk5 V c 1 t) := by dsimp only [dat5]

/-- Each input's current staging buffer holds its block at every point, fetched there or not (`beforeK_W_of`). -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' memrefs hold their blocks (`before5_W`), so `sound_kernel5` applies; the invariant and
    the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point: the body's triple restated. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Regions
end Cert.KernelIdeal.Whole

end
-- ==== Proof.Cluster.lean ====
/- The clustering region: one call over the 512 sorted values of 80 rows, a loop of 510 trips that stores one row of the
    mask per trip and carries two running centres, then the refinement against the mean of the positives. The loop goes by
    an invariant stated with explicit recursions, from which the value of the mask is read later.  -/
module

public import proofs.«01_k».proof.Proof.Halves
public import Idealize.ShloMosaic.Lib.Pipeline.Value

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-! # REGION 3 of @main: custom_call 3, `cc3__cluster_body` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-! ## The loop: the carried values and the rows stored, trip by trip -/

/-- The four running values the loop carries: positive sum and count, negative sum and count, one lane per row to
    cluster. -/
abbrev Car (F : FTy → Type) : Type := FVec F S1x80 .f32 × FVec F S1x80 .f32 × FVec F S1x80 .f32 × FVec F S1x80 .f32

/-- The whole buffer, its first row, its last row, and the row of trip `k` (row `k + 1`). -/
abbrev r3_0 : Rect S512x80 := Rect.unit (s := S512x80) ![0, 0] S512x80.size inb_S512x80_S512x80_0_0
abbrev r3_1 : Rect S512x80 := Rect.unit (s := S512x80) ![0, 0] S1x80.size inb_S512x80_S1x80_0_0
abbrev r3_2 : Rect S512x80 := Rect.unit (s := S512x80) ![511, 0] S1x80.size inb_S512x80_S1x80_511_0
abbrev rRow (k : Fin k3_t1_loop.trips) : Rect S512x80 := Rect.unit (s := S512x80) (k3_off1 k) S1x80.size (k3_off1_inb k)

/-- The carried values before the first trip: the first row and the last row as centres, each counted once. -/
def car0 (x0 : Vec F S512x80 .f32) : Car F :=
  (k3_pay1 (View.ld x0 r3_1), k3_pay5 (F := F), k3_pay2 (View.ld x0 r3_2), k3_pay6 (F := F))

/-- What trip `k` makes of the carried values. -/
def carStep (x0 : Vec F S512x80 .f32) (k : Fin k3_t1_loop.trips) (a : Car F) : Car F :=
  (k3_pay10 k a.1 a.2.1 a.2.2.1 a.2.2.2 (View.ld x0 (rRow k)), k3_pay11 k a.1 a.2.1 a.2.2.1 a.2.2.2 (View.ld x0 (rRow k)),
    k3_pay12 a.1 a.2.1 a.2.2.1 a.2.2.2 (View.ld x0 (rRow k)), k3_pay13 a.1 a.2.1 a.2.2.1 a.2.2.2 (View.ld x0 (rRow k)))

/-- The carried values before trip `k`. -/
def car (x0 : Vec F S512x80 .f32) : ℕ → Car F
  | 0 => car0 x0
  | k + 1 => if h : k < k3_t1_loop.trips then carStep x0 ⟨k, h⟩ (car x0 k) else car x0 k

/-- The row trip `k` stores: the condition, as 0 or 1. -/
def condRow (x0 : Vec F S512x80 .f32) (k : Fin k3_t1_loop.trips) : Vec F S1x80 .f32 :=
  k3_pay8 (car x0 k.val).1 (car x0 k.val).2.1 (car x0 k.val).2.2.1 (car x0 k.val).2.2.2 (View.ld x0 (rRow k))

/-- The rows stored by the trips before `k`, the last first. -/
def pcs (x0 : Vec F S512x80 .f32) : ℕ → List (View.Piece (Elt F) S512x80 .f32)
  | 0 => []
  | k + 1 => if h : k < k3_t1_loop.trips then ⟨rRow ⟨k, h⟩, condRow x0 ⟨k, h⟩⟩ :: pcs x0 k else pcs x0 k

theorem car_succ (x0 : Vec F S512x80 .f32) (k : Fin k3_t1_loop.trips) : car x0 (k.val + 1) = carStep x0 k (car x0 k.val) := by
  rw [car.eq_2, dif_pos k.isLt]
theorem pcs_succ (x0 : Vec F S512x80 .f32) (k : Fin k3_t1_loop.trips) :
    pcs x0 (k.val + 1) = ⟨rRow k, condRow x0 k⟩ :: pcs x0 k.val := by
  rw [pcs.eq_2, dif_pos k.isLt]

/-- The loop's invariant before trip `k`: the input as it was, the output holding the rows stored so far over what the
    loop found, the carried values the recursion's. -/
abbrev inv3 (c : Dev nD) (arg0 : Memref sig .tc .vmem S512x80 .f32) (arg1 : Memref sig .tc .vmem S512x80 .f32)
    (f0 : BufTy.Contents (Elt F) arg0.view.ty) (g1 : BufTy.Contents (Elt F) arg1.view.ty) (k : ℕ) (acc : Car F) : sProp 𝕄 :=
  iprop((arg0.view.loc (c : Thread nD τ) ↦[arg0.view.set]{fullShare} f0)
    ∗ (∃ f, (arg1.view.loc (c : Thread nD τ) ↦[arg1.view.set]{fullShare} f)
        ∗ ⌜f = arg1.view.writes (Elt F) g1 (pcs (arg0.view.read (Elt F) f0) k)⌝)
    ∗ ⌜acc = car (arg0.view.read (Elt F) f0) k⌝)

set_option warn.classDefReducibility false in
set_option maxHeartbeats 1000000 in
/-- The counted loop by this invariant: one trip, run symbolically, stores its row and steps the carried values. -/
@[sl_loop] def loopInv3 (c : Dev nD) (E : Set ℕ) (arg0 : Memref sig .tc .vmem S512x80 .f32) (harg0 : arg0.IsWhole)
    (arg1 : Memref sig .tc .vmem S512x80 .f32) (harg1 : arg1.IsWhole)
    (f0 : BufTy.Contents (Elt F) arg0.view.ty) (g1 : BufTy.Contents (Elt F) arg1.view.ty) :
    LoopInv (M := MT nD τ sig Unit (Elt F) ℕ (UR sig nD τ) ℕ) Idealize.ShloMosaic.frame (wpE (defs₀ (F := F)) Variants.none (c : Thread nD τ) none) E
      k3_t1_loop.lb k3_t1_loop.ub k3_t1_loop.st k3_t1_ok (car0 (arg0.view.read (Elt F) f0)) (k3_t1_body (F := F) arg0 harg0 arg1 harg1) where
  inv := inv3 c arg0 arg1 f0 g1
  step k acc := by
    have hk : k.val < 510 := Nat.lt_of_lt_of_le k.isLt k3_t1_abs.2.1
    iintro ⟨H0, ⟨%f, H1, %hf⟩, %hacc⟩
    subst hacc
    unfold k3_t1_body
    sl_exec
    sl_step
    isplitl [H0]; · iexact H0
    simp only [pcs_succ, car_succ]
    isplitl [H1]
    · iexists _; isplitl [H1]; · iexact H1
      ipureintro; rw [hf]; rfl
    ipureintro; rfl

/-- The row of every earlier trip is among the rows stored. -/
theorem mem_pcs (x0 : Vec F S512x80 .f32) (j : Fin k3_t1_loop.trips) : ∀ k, j.val < k →
    (⟨rRow j, condRow x0 j⟩ : View.Piece (Elt F) S512x80 .f32) ∈ pcs x0 k
  | k + 1, h => by
    rw [pcs.eq_2]
    rcases Nat.lt_succ_iff_lt_or_eq.1 h with h' | h'
    · split
      · exact List.mem_cons_of_mem _ (mem_pcs x0 j k h')
      · exact mem_pcs x0 j k h'
    · subst h'; rw [dif_pos j.isLt]; exact List.mem_cons_self

/-- Every row of the buffer is stored: the first and last before the loop, the others by the trips. -/
theorem cover3 (x0 : Vec F S512x80 .f32) (p q : Vec F S1x80 .f32) (y : S512x80.Idx) :
    ∃ pc ∈ pcs x0 510 ++ [⟨r3_2, q⟩, ⟨r3_1, p⟩], y ∈ pc.1.set := by
  have h0 : (y 0).val < 512 := (y 0).isLt
  have h1 : (y 1).val < 80 := (y 1).isLt
  by_cases hz : (y 0).val = 0
  · refine ⟨⟨r3_1, p⟩, by simp, (Rect.mem_set_unit (inb := inb_S512x80_S1x80_0_0)).2 fun a => ?_⟩
    fin_cases a
    · exact ⟨Nat.zero_le _, by show (y 0).val < 0 + 1; omega⟩
    · exact ⟨Nat.zero_le _, by show (y 1).val < 0 + 80; omega⟩
  by_cases hl : (y 0).val = 511
  · refine ⟨⟨r3_2, q⟩, by simp, (Rect.mem_set_unit (inb := inb_S512x80_S1x80_511_0)).2 fun a => ?_⟩
    fin_cases a
    · exact ⟨by show 511 ≤ (y 0).val; omega, by show (y 0).val < 511 + 1; omega⟩
    · exact ⟨Nat.zero_le _, by show (y 1).val < 0 + 80; omega⟩
  · have hk : (y 0).val - 1 < k3_t1_loop.trips := by rw [show k3_t1_loop.trips = 510 from by decide]; omega
    refine ⟨⟨rRow ⟨_, hk⟩, condRow x0 ⟨_, hk⟩⟩, List.mem_append_left _ (mem_pcs x0 ⟨_, hk⟩ 510 (by show (y 0).val - 1 < 510; omega)), ?_⟩
    refine (Rect.mem_set_unit (inb := k3_off1_inb ⟨(y 0).val - 1, hk⟩)).2 fun a => ?_
    rw [k3_off1_eq]
    fin_cases a
    · exact ⟨by show (y 0).val - 1 + 1 ≤ (y 0).val; omega, by show (y 0).val < (y 0).val - 1 + 1 + 1; omega⟩
    · exact ⟨Nat.zero_le _, by show (y 1).val < 0 + 80; omega⟩

theorem trips3 : Scf.trips k3_t1_loop.lb k3_t1_loop.ub k3_t1_loop.st = 510 := by decide

/-- The clustering mask before refinement: the first row 1, the last row 0, the rows between by the loop. -/
def mask3 (x0 : Vec F S512x80 .f32) : Vec F S512x80 .f32 :=
  View.canon (pcs x0 510 ++ [⟨r3_2, k3_pay4 (F := F)⟩, ⟨r3_1, k3_pay3 (F := F)⟩])

/-! ## What the body leaves in the output window's buffer -/

/-- Window 1's staging buffer after the body: the refined mask. -/
def out3_1 (x0 : Vec F S512x80 .f32) : Vec F S512x80 .f32 :=
  View.canon [⟨r3_0, k3_pay14 (View.ld (mask3 x0) r3_0) (View.ld x0 r3_0)⟩]

theorem cover3_1 (p0 : Vec F S512x80 .f32) (L : List (View.Piece (Elt F) S512x80 .f32)) (y : S512x80.Idx) :
    ∃ pc ∈ (⟨r3_0, p0⟩ :: L : List (View.Piece (Elt F) S512x80 .f32)), y ∈ pc.1.set :=
  ⟨_, List.mem_cons_self, View.mem_set_unit_zero (funext fun a => by fin_cases a <;> rfl) inb_S512x80_S512x80_0_0 y⟩

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs, through every part call. -/
theorem sound_kernel3 (c : Dev nD) (E : Set ℕ) (arg0 : Memref sig .tc .vmem S512x80 .f32) (harg0 : arg0.IsWhole) (arg1 : Memref sig .tc .vmem S512x80 .f32) (harg1 : arg1.IsWhole)
    (x0 : Vec F S512x80 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out3_1 x0)) -∗ K ⟨⟩))
      ⊢ wp frame (wpE (defs₀ (F := F)) Variants.none c none) E (cc3__cluster_body arg0 harg0 arg1 harg1) K := by
  simp only [cc3__cluster_body_eq_skeleton]; unfold cc3__cluster_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover3_1 _ _)).trans ?_
  unfold out3_1
  rw [View.canon_cons_unit_zero (funext fun a => by fin_cases a <;> rfl), View.canon_unit_zero (funext fun a => by fin_cases a <;> rfl)]
  unfold sound_kernel3.sl.r
  refine congrArg₂ k3_pay14 ?_ rfl
  unfold sound_kernel3.sl.v12 mask3
  rw [trips3]
  first
  | exact View.readCov_eq_canon_ld _ _ _ (cover3 _ _ _)
  | (rw [View.readAt_eq_ld]; exact congrArg (View.ld · r3_0) (View.read_writes_eq_canon _ _ _ (cover3 _ _ _)))

/-! ## The pipeline's proof data -/

/-- The proof data of pipeline 3 on core `c`: the arrays as the region finds them (`V`); after the body at
    point `t` each input's buffer at its block and each output's at `out3_W` of the input blocks; the invariant the
    class's; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl
end Regions

end Cert.KernelIdeal.Whole

end
-- ==== Proof.Run.lean ====
/- The run of `@main`: the buffer contents at every segment boundary as a fold from the launch memory, a record per
    host stretch and per region, and the launch: every weakly fair execution ends with every unscoped buffer at the fold's
    last contents.  -/
module

public import proofs.«01_k».proof.Proof.Cluster

@[expose] public section

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return -/

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

/-! ## The host stretches: none allocates a buffer, and each lists the references its operations write, in order,
    so that a reference absent from the list keeps its contents across the stretch -/

theorem hostOps0_fresh : (hostOps0 : List (HloOp τ sig (Elt F))).Forall fun op => op.fresh = ∅ := by
  simp only [List.Forall]; repeat' constructor
abbrev hostOps0_W : List (Ref sig .tc) := [main_v0, main_v1, main_c]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps0_1_fresh : (hostOps0_1 : List (HloOp τ sig (Elt F))).Forall fun op => op.fresh = ∅ := by
  simp only [List.Forall]; repeat' constructor
abbrev hostOps0_1_W : List (Ref sig .tc) := [main_call0_v0, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

theorem hostOps0_2_fresh : (hostOps0_2 : List (HloOp τ sig (Elt F))).Forall fun op => op.fresh = ∅ := by
  simp only [List.Forall]; repeat' constructor
abbrev hostOps0_2_W : List (Ref sig .tc) := [main_v3, main_v4, main_v5, main_v6, main_v7, main_v8, main_v9, main_v10, main_v11, main_v12, main_v13, main_v14, main_v15, main_v16, main_v17, main_v18, main_v19, main_c_0]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

theorem hostOps0_3_fresh : (hostOps0_3 : List (HloOp τ sig (Elt F))).Forall fun op => op.fresh = ∅ := by
  simp only [List.Forall]; repeat' constructor
abbrev hostOps0_3_W : List (Ref sig .tc) := [main_call1_v0, main_v20]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

theorem hostOps0_4_fresh : (hostOps0_4 : List (HloOp τ sig (Elt F))).Forall fun op => op.fresh = ∅ := by
  simp only [List.Forall]; repeat' constructor
abbrev hostOps0_4_W : List (Ref sig .tc) := [main_v21, main_v22, main_c_1]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

theorem hostOps0_5_fresh : (hostOps0_5 : List (HloOp τ sig (Elt F))).Forall fun op => op.fresh = ∅ := by
  simp only [List.Forall]; repeat' constructor
abbrev hostOps0_5_W : List (Ref sig .tc) := [main_call2_v0, main_v23]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_args : ∀ a ∈ argRefs, a ∉ hostOps0_5_W := ListAll.forall_mem_of_all_decide (by decide +kernel)

theorem hostOps0_6_fresh : (hostOps0_6 : List (HloOp τ sig (Elt F))).Forall fun op => op.fresh = ∅ := by
  simp only [List.Forall]; repeat' constructor
abbrev hostOps0_6_W : List (Ref sig .tc) := [main_v24, main_v25, main_c_2]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_args : ∀ a ∈ argRefs, a ∉ hostOps0_6_W := ListAll.forall_mem_of_all_decide (by decide +kernel)

theorem hostOps0_7_fresh : (hostOps0_7 : List (HloOp τ sig (Elt F))).Forall fun op => op.fresh = ∅ := by
  simp only [List.Forall]; repeat' constructor
abbrev hostOps0_7_W : List (Ref sig .tc) := [main_call3_v0, main_v26]
theorem hostOps0_7_writes : (hostOps0_7 : List (HloOp τ sig (Elt F))).Forall fun op => op.writes ⊆ (hostOps0_7_W.map (Proc.devRef (τ := τ) .tc)).toFinset :=
  StableHlo.forall_writes_sub_of_map rfl
theorem hostOps0_7_args : ∀ a ∈ argRefs, a ∉ hostOps0_7_W := ListAll.forall_mem_of_all_decide (by decide +kernel)

theorem hostOps0_8_fresh : (hostOps0_8 : List (HloOp τ sig (Elt F))).Forall fun op => op.fresh = ∅ := by
  simp only [List.Forall]; repeat' constructor
abbrev hostOps0_8_W : List (Ref sig .tc) := [main_v27, main_v28, main_c_3]
theorem hostOps0_8_writes : (hostOps0_8 : List (HloOp τ sig (Elt F))).Forall fun op => op.writes ⊆ (hostOps0_8_W.map (Proc.devRef (τ := τ) .tc)).toFinset :=
  StableHlo.forall_writes_sub_of_map rfl
theorem hostOps0_8_args : ∀ a ∈ argRefs, a ∉ hostOps0_8_W := ListAll.forall_mem_of_all_decide (by decide +kernel)

theorem hostOps0_9_fresh : (hostOps0_9 : List (HloOp τ sig (Elt F))).Forall fun op => op.fresh = ∅ := by
  simp only [List.Forall]; repeat' constructor
abbrev hostOps0_9_W : List (Ref sig .tc) := [main_call4_v0, main_v29]
theorem hostOps0_9_writes : (hostOps0_9 : List (HloOp τ sig (Elt F))).Forall fun op => op.writes ⊆ (hostOps0_9_W.map (Proc.devRef (τ := τ) .tc)).toFinset :=
  StableHlo.forall_writes_sub_of_map rfl
theorem hostOps0_9_args : ∀ a ∈ argRefs, a ∉ hostOps0_9_W := ListAll.forall_mem_of_all_decide (by decide +kernel)

theorem hostOps0_10_fresh : (hostOps0_10 : List (HloOp τ sig (Elt F))).Forall fun op => op.fresh = ∅ := by
  simp only [List.Forall]; repeat' constructor
abbrev hostOps0_10_W : List (Ref sig .tc) := [main_v30, main_v31, main_v32, main_v33, main_v34, main_c_4]
theorem hostOps0_10_writes : (hostOps0_10 : List (HloOp τ sig (Elt F))).Forall fun op => op.writes ⊆ (hostOps0_10_W.map (Proc.devRef (τ := τ) .tc)).toFinset :=
  StableHlo.forall_writes_sub_of_map rfl
theorem hostOps0_10_args : ∀ a ∈ argRefs, a ∉ hostOps0_10_W := ListAll.forall_mem_of_all_decide (by decide +kernel)

theorem hostOps0_11_fresh : (hostOps0_11 : List (HloOp τ sig (Elt F))).Forall fun op => op.fresh = ∅ := by
  simp only [List.Forall]; repeat' constructor
abbrev hostOps0_11_W : List (Ref sig .tc) := [main_call5_v0, main_v35]
theorem hostOps0_11_writes : (hostOps0_11 : List (HloOp τ sig (Elt F))).Forall fun op => op.writes ⊆ (hostOps0_11_W.map (Proc.devRef (τ := τ) .tc)).toFinset :=
  StableHlo.forall_writes_sub_of_map rfl
theorem hostOps0_11_args : ∀ a ∈ argRefs, a ∉ hostOps0_11_W := ListAll.forall_mem_of_all_decide (by decide +kernel)

theorem hostOps0_12_fresh : (hostOps0_12 : List (HloOp τ sig (Elt F))).Forall fun op => op.fresh = ∅ := by
  simp only [List.Forall]; repeat' constructor
abbrev hostOps0_12_W : List (Ref sig .tc) := [main_c_5]
theorem hostOps0_12_writes : (hostOps0_12 : List (HloOp τ sig (Elt F))).Forall fun op => op.writes ⊆ (hostOps0_12_W.map (Proc.devRef (τ := τ) .tc)).toFinset :=
  StableHlo.forall_writes_sub_of_map rfl
theorem hostOps0_12_args : ∀ a ∈ argRefs, a ∉ hostOps0_12_W := ListAll.forall_mem_of_all_decide (by decide +kernel)

theorem hostOps0_13_fresh : (hostOps0_13 : List (HloOp τ sig (Elt F))).Forall fun op => op.fresh = ∅ := by
  simp only [List.Forall]; repeat' constructor
abbrev hostOps0_13_W : List (Ref sig .tc) := [main_call6_v0, main_v36]
theorem hostOps0_13_writes : (hostOps0_13 : List (HloOp τ sig (Elt F))).Forall fun op => op.writes ⊆ (hostOps0_13_W.map (Proc.devRef (τ := τ) .tc)).toFinset :=
  StableHlo.forall_writes_sub_of_map rfl
theorem hostOps0_13_args : ∀ a ∈ argRefs, a ∉ hostOps0_13_W := ListAll.forall_mem_of_all_decide (by decide +kernel)

theorem hostOps0_14_fresh : (hostOps0_14 : List (HloOp τ sig (Elt F))).Forall fun op => op.fresh = ∅ := by
  simp only [List.Forall]; repeat' constructor
abbrev hostOps0_14_W : List (Ref sig .tc) := [main_c_6]
theorem hostOps0_14_writes : (hostOps0_14 : List (HloOp τ sig (Elt F))).Forall fun op => op.writes ⊆ (hostOps0_14_W.map (Proc.devRef (τ := τ) .tc)).toFinset :=
  StableHlo.forall_writes_sub_of_map rfl
theorem hostOps0_14_args : ∀ a ∈ argRefs, a ∉ hostOps0_14_W := ListAll.forall_mem_of_all_decide (by decide +kernel)

theorem hostOps0_15_fresh : (hostOps0_15 : List (HloOp τ sig (Elt F))).Forall fun op => op.fresh = ∅ := by
  simp only [List.Forall]; repeat' constructor
abbrev hostOps0_15_W : List (Ref sig .tc) := [main_call7_v0, main_v37]
theorem hostOps0_15_writes : (hostOps0_15 : List (HloOp τ sig (Elt F))).Forall fun op => op.writes ⊆ (hostOps0_15_W.map (Proc.devRef (τ := τ) .tc)).toFinset :=
  StableHlo.forall_writes_sub_of_map rfl
theorem hostOps0_15_args : ∀ a ∈ argRefs, a ∉ hostOps0_15_W := ListAll.forall_mem_of_all_decide (by decide +kernel)

theorem hostOps0_16_fresh : (hostOps0_16 : List (HloOp τ sig (Elt F))).Forall fun op => op.fresh = ∅ := by
  simp only [List.Forall]; repeat' constructor
abbrev hostOps0_16_W : List (Ref sig .tc) := [main_c_7]
theorem hostOps0_16_writes : (hostOps0_16 : List (HloOp τ sig (Elt F))).Forall fun op => op.writes ⊆ (hostOps0_16_W.map (Proc.devRef (τ := τ) .tc)).toFinset :=
  StableHlo.forall_writes_sub_of_map rfl
theorem hostOps0_16_args : ∀ a ∈ argRefs, a ∉ hostOps0_16_W := ListAll.forall_mem_of_all_decide (by decide +kernel)

theorem hostOps0_17_fresh : (hostOps0_17 : List (HloOp τ sig (Elt F))).Forall fun op => op.fresh = ∅ := by
  simp only [List.Forall]; repeat' constructor
abbrev hostOps0_17_W : List (Ref sig .tc) := [main_call8_v0, main_v38]
theorem hostOps0_17_writes : (hostOps0_17 : List (HloOp τ sig (Elt F))).Forall fun op => op.writes ⊆ (hostOps0_17_W.map (Proc.devRef (τ := τ) .tc)).toFinset :=
  StableHlo.forall_writes_sub_of_map rfl
theorem hostOps0_17_args : ∀ a ∈ argRefs, a ∉ hostOps0_17_W := ListAll.forall_mem_of_all_decide (by decide +kernel)

theorem hostOps0_18_fresh : (hostOps0_18 : List (HloOp τ sig (Elt F))).Forall fun op => op.fresh = ∅ := by
  simp only [List.Forall]; repeat' constructor
abbrev hostOps0_18_W : List (Ref sig .tc) := [main_v39, main_v40, main_v41, main_v42, main_v43, main_v44]
theorem hostOps0_18_writes : (hostOps0_18 : List (HloOp τ sig (Elt F))).Forall fun op => op.writes ⊆ (hostOps0_18_W.map (Proc.devRef (τ := τ) .tc)).toFinset :=
  StableHlo.forall_writes_sub_of_map rfl
theorem hostOps0_18_args : ∀ a ∈ argRefs, a ∉ hostOps0_18_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v47, main_v48, main_v49, main_v50, main_v51]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

theorem hostOps3_fresh : (hostOps3 : List (HloOp τ sig (Elt F))).Forall fun op => op.fresh = ∅ := by
  simp only [List.Forall]; repeat' constructor
abbrev hostOps3_W : List (Ref sig .tc) := [main_v53, main_v54]
theorem hostOps3_writes : (hostOps3 : List (HloOp τ sig (Elt F))).Forall fun op => op.writes ⊆ (hostOps3_W.map (Proc.devRef (τ := τ) .tc)).toFinset :=
  StableHlo.forall_writes_sub_of_map rfl
theorem hostOps3_args : ∀ a ∈ argRefs, a ∉ hostOps3_W := ListAll.forall_mem_of_all_decide (by decide +kernel)

theorem hostOps4_fresh : (hostOps4 : List (HloOp τ sig (Elt F))).Forall fun op => op.fresh = ∅ := by
  simp only [List.Forall]; repeat' constructor
abbrev hostOps4_W : List (Ref sig .tc) := [main_v56, main_v57]
theorem hostOps4_writes : (hostOps4 : List (HloOp τ sig (Elt F))).Forall fun op => op.writes ⊆ (hostOps4_W.map (Proc.devRef (τ := τ) .tc)).toFinset :=
  StableHlo.forall_writes_sub_of_map rfl
theorem hostOps4_args : ∀ a ∈ argRefs, a ∉ hostOps4_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_v59, main_v60]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

theorem hostOps6_fresh : (hostOps6 : List (HloOp τ sig (Elt F))).Forall fun op => op.fresh = ∅ := by
  simp only [List.Forall]; repeat' constructor
abbrev hostOps6_W : List (Ref sig .tc) := [main_v62, main_v63, main_v64]
theorem hostOps6_writes : (hostOps6 : List (HloOp τ sig (Elt F))).Forall fun op => op.writes ⊆ (hostOps6_W.map (Proc.devRef (τ := τ) .tc)).toFinset :=
  StableHlo.forall_writes_sub_of_map rfl
theorem hostOps6_args : ∀ a ∈ argRefs, a ∉ hostOps6_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12`. -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13`. -/
abbrev W14 : Dev nD → Valuation τ sig (Elt F) := fun c => StableHlo.after hostOps0_13 (W13 m ρ c)
/-- A reference `hostOps0_13` does not write keeps its contents across it. -/
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- After `hostOps0_14`. -/
abbrev W15 : Dev nD → Valuation τ sig (Elt F) := fun c => StableHlo.after hostOps0_14 (W14 m ρ c)
/-- A reference `hostOps0_14` does not write keeps its contents across it. -/
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W15_args (c : Dev nD) : ∀ a ∈ argRefs, W15 m ρ c (Proc.devRef .tc a) = m ((c : Thread nD τ).loc a) :=
  fun a ha => (W15_of m ρ c a (hostOps0_14_args a ha)).trans (W14_args m ρ c a ha)
/-- After `hostOps0_15`. -/
abbrev W16 : Dev nD → Valuation τ sig (Elt F) := fun c => StableHlo.after hostOps0_15 (W15 m ρ c)
/-- A reference `hostOps0_15` does not write keeps its contents across it. -/
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W16_args (c : Dev nD) : ∀ a ∈ argRefs, W16 m ρ c (Proc.devRef .tc a) = m ((c : Thread nD τ).loc a) :=
  fun a ha => (W16_of m ρ c a (hostOps0_15_args a ha)).trans (W15_args m ρ c a ha)
/-- After `hostOps0_16`. -/
abbrev W17 : Dev nD → Valuation τ sig (Elt F) := fun c => StableHlo.after hostOps0_16 (W16 m ρ c)
/-- A reference `hostOps0_16` does not write keeps its contents across it. -/
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W17_args (c : Dev nD) : ∀ a ∈ argRefs, W17 m ρ c (Proc.devRef .tc a) = m ((c : Thread nD τ).loc a) :=
  fun a ha => (W17_of m ρ c a (hostOps0_16_args a ha)).trans (W16_args m ρ c a ha)
/-- After `hostOps0_17`. -/
abbrev W18 : Dev nD → Valuation τ sig (Elt F) := fun c => StableHlo.after hostOps0_17 (W17 m ρ c)
/-- A reference `hostOps0_17` does not write keeps its contents across it. -/
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W18_args (c : Dev nD) : ∀ a ∈ argRefs, W18 m ρ c (Proc.devRef .tc a) = m ((c : Thread nD τ).loc a) :=
  fun a ha => (W18_of m ρ c a (hostOps0_17_args a ha)).trans (W17_args m ρ c a ha)
/-- After `hostOps0_18` (region 0's entry). -/
abbrev W19 : Dev nD → Valuation τ sig (Elt F) := fun c => StableHlo.after hostOps0_18 (W18 m ρ c)
/-- A reference `hostOps0_18` does not write keeps its contents across it. -/
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W19_args (c : Dev nD) : ∀ a ∈ argRefs, W19 m ρ c (Proc.devRef .tc a) = m ((c : Thread nD τ).loc a) :=
  fun a ha => (W19_of m ρ c a (hostOps0_18_args a ha)).trans (W18_args m ρ c a ha)
/-- The same read at the TensorCore's references (what region 0's proof data take). -/
abbrev V19 : (c : Dev nD) → (b : Ref sig .tc) → Buf (Elt F) ((c : Thread nD τ).loc b) := fun c b => W19 m ρ c b
/-- At region 0's exit: its arrays at what the pipeline leaves (the inputs as entered, each output's write-backs
    folded: `Dat.arrAt … N`), every other buffer as entered (region 1's entry). -/
def W20 (c : Dev nD) : Valuation τ sig (Elt F) :=
  Pipeline.withArrays spec0 c (W19 m ρ c) fun w => (dat0 (V19 m ρ) c).arrAt w cfg0.N
theorem W20_arr (c : Dev nD) (w : Fin cfg0.W) :
    W20 m ρ c (Proc.devRef .tc (Pipeline.arrRef spec0 w)) = (dat0 (V19 m ρ) c).arrAt w cfg0.N := by
  unfold W20; exact Pipeline.withArrays_arr spec0 launch0.win.arr_inj c _ _ w
theorem W20_of_ne (c : Dev nD) (b : Ref sig .tc) (hb : ∀ w, Pipeline.arrRef spec0 w ≠ b) :
    W20 m ρ c (Proc.devRef .tc b) = W19 m ρ c (Proc.devRef .tc b) := by
  unfold W20; exact Pipeline.withArrays_of_ne spec0 c _ _ b hb
/-- A reference that is none of region 0's OUTPUT arrays keeps its entry contents across it: an input window's
    array is never written back (`Dat.arrAt_in`, `A_eq0`); any other buffer is left as is. -/
theorem W20_of (c : Dev nD) (r : Ref sig .tc) (h : ∀ w : Fin cfg0.W, Pipeline.arrRef spec0 w = r → (cfg0.win w).isOut = false) :
    W20 m ρ c (Proc.devRef .tc r) = W19 m ρ c (Proc.devRef .tc r) := by
  by_cases hw : ∃ w : Fin cfg0.W, Pipeline.arrRef spec0 w = r
  · obtain ⟨w, rfl⟩ := hw
    exact (W20_arr m ρ c w).trans (((dat0 (V19 m ρ) c).arrAt_in w (h w rfl) _).trans (A_eq0 (V19 m ρ) c w))
  · exact W20_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn0 a ha)).trans (W19_args m ρ c a ha)
/-- The same read at the TensorCore's references (region 0's exit contents). -/
abbrev V20 : (c : Dev nD) → (b : Ref sig .tc) → Buf (Elt F) ((c : Thread nD τ).loc b) := fun c b => W20 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V19 m ρ) c).arrAt w cfg0.N = V20 m ρ c (Pipeline.arrRef spec0 w) :=
  (W20_arr m ρ c w).symm
theorem hrest0 (c : Dev nD) : ∀ b, b ∉ Finset.univ.image (Pipeline.arrRef spec0) → V20 m ρ c b = V19 m ρ c b :=
  fun b hb => W20_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W21 (c : Dev nD) : Valuation τ sig (Elt F) :=
  Pipeline.withArrays spec1 c (W20 m ρ c) fun w => (dat1 (V20 m ρ) c).arrAt w cfg1.N
theorem W21_arr (c : Dev nD) (w : Fin cfg1.W) :
    W21 m ρ c (Proc.devRef .tc (Pipeline.arrRef spec1 w)) = (dat1 (V20 m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 m ρ c (Proc.devRef .tc b) = W20 m ρ c (Proc.devRef .tc b) := by
  unfold W21; exact Pipeline.withArrays_of_ne spec1 c _ _ b hb
/-- A reference that is none of region 1's OUTPUT arrays keeps its entry contents across it: an input window's
    array is never written back (`Dat.arrAt_in`, `A_eq1`); any other buffer is left as is. -/
theorem W21_of (c : Dev nD) (r : Ref sig .tc) (h : ∀ w : Fin cfg1.W, Pipeline.arrRef spec1 w = r → (cfg1.win w).isOut = false) :
    W21 m ρ c (Proc.devRef .tc r) = W20 m ρ c (Proc.devRef .tc r) := by
  by_cases hw : ∃ w : Fin cfg1.W, Pipeline.arrRef spec1 w = r
  · obtain ⟨w, rfl⟩ := hw
    exact (W21_arr m ρ c w).trans (((dat1 (V20 m ρ) c).arrAt_in w (h w rfl) _).trans (A_eq1 (V20 m ρ) c w))
  · exact W21_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W21_args (c : Dev nD) : ∀ a ∈ argRefs, W21 m ρ c (Proc.devRef .tc a) = m ((c : Thread nD τ).loc a) :=
  fun a ha => (W21_of m ρ c a (argsIn1 a ha)).trans (W20_args m ρ c a ha)
/-- The same read at the TensorCore's references (region 1's exit contents). -/
abbrev V21 : (c : Dev nD) → (b : Ref sig .tc) → Buf (Elt F) ((c : Thread nD τ).loc b) := fun c b => W21 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V20 m ρ) c).arrAt w cfg1.N = V21 m ρ c (Pipeline.arrRef spec1 w) :=
  (W21_arr m ρ c w).symm
theorem hrest1 (c : Dev nD) : ∀ b, b ∉ Finset.univ.image (Pipeline.arrRef spec1) → V21 m ρ c b = V20 m ρ c b :=
  fun b hb => W21_of_ne m ρ c b fun w e => hb (Finset.mem_image.mpr ⟨w, Finset.mem_univ _, e⟩)

/-- After `hostOps2` (region 2's entry). -/
abbrev W22 : Dev nD → Valuation τ sig (Elt F) := fun c => StableHlo.after hostOps2 (W21 m ρ c)
/-- A reference `hostOps2` does not write keeps its contents across it. -/
theorem W22_of (c : Dev nD) (r : Ref sig .tc) (h : r ∉ hostOps2_W) : W22 m ρ c (Proc.devRef .tc r) = W21 m ρ c (Proc.devRef .tc r) :=
  StableHlo.after_of_writes_sub hostOps2 _ hostOps2_writes h
theorem W22_args (c : Dev nD) : ∀ a ∈ argRefs, W22 m ρ c (Proc.devRef .tc a) = m ((c : Thread nD τ).loc a) :=
  fun a ha => (W22_of m ρ c a (hostOps2_args a ha)).trans (W21_args m ρ c a ha)
/-- The same read at the TensorCore's references (what region 2's proof data take). -/
abbrev V22 : (c : Dev nD) → (b : Ref sig .tc) → Buf (Elt F) ((c : Thread nD τ).loc b) := fun c b => W22 m ρ c b
/-- At region 2's exit: its arrays at what the pipeline leaves (the inputs as entered, each output's write-backs
    folded: `Dat.arrAt … N`), every other buffer as entered. -/
def W23 (c : Dev nD) : Valuation τ sig (Elt F) :=
  Pipeline.withArrays spec2 c (W22 m ρ c) fun w => (dat2 (V22 m ρ) c).arrAt w cfg2.N
theorem W23_arr (c : Dev nD) (w : Fin cfg2.W) :
    W23 m ρ c (Proc.devRef .tc (Pipeline.arrRef spec2 w)) = (dat2 (V22 m ρ) c).arrAt w cfg2.N := by
  unfold W23; exact Pipeline.withArrays_arr spec2 launch2.win.arr_inj c _ _ w
theorem W23_of_ne (c : Dev nD) (b : Ref sig .tc) (hb : ∀ w, Pipeline.arrRef spec2 w ≠ b) :
    W23 m ρ c (Proc.devRef .tc b) = W22 m ρ c (Proc.devRef .tc b) := by
  unfold W23; exact Pipeline.withArrays_of_ne spec2 c _ _ b hb
/-- A reference that is none of region 2's OUTPUT arrays keeps its entry contents across it: an input window's
    array is never written back (`Dat.arrAt_in`, `A_eq2`); any other buffer is left as is. -/
theorem W23_of (c : Dev nD) (r : Ref sig .tc) (h : ∀ w : Fin cfg2.W, Pipeline.arrRef spec2 w = r → (cfg2.win w).isOut = false) :
    W23 m ρ c (Proc.devRef .tc r) = W22 m ρ c (Proc.devRef .tc r) := by
  by_cases hw : ∃ w : Fin cfg2.W, Pipeline.arrRef spec2 w = r
  · obtain ⟨w, rfl⟩ := hw
    exact (W23_arr m ρ c w).trans (((dat2 (V22 m ρ) c).arrAt_in w (h w rfl) _).trans (A_eq2 (V22 m ρ) c w))
  · exact W23_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W23_args (c : Dev nD) : ∀ a ∈ argRefs, W23 m ρ c (Proc.devRef .tc a) = m ((c : Thread nD τ).loc a) :=
  fun a ha => (W23_of m ρ c a (argsIn2 a ha)).trans (W22_args m ρ c a ha)
/-- The same read at the TensorCore's references (region 2's exit contents). -/
abbrev V23 : (c : Dev nD) → (b : Ref sig .tc) → Buf (Elt F) ((c : Thread nD τ).loc b) := fun c b => W23 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V22 m ρ) c).arrAt w cfg2.N = V23 m ρ c (Pipeline.arrRef spec2 w) :=
  (W23_arr m ρ c w).symm
theorem hrest2 (c : Dev nD) : ∀ b, b ∉ Finset.univ.image (Pipeline.arrRef spec2) → V23 m ρ c b = V22 m ρ c b :=
  fun b hb => W23_of_ne m ρ c b fun w e => hb (Finset.mem_image.mpr ⟨w, Finset.mem_univ _, e⟩)

/-- After `hostOps3` (region 3's entry). -/
abbrev W24 : Dev nD → Valuation τ sig (Elt F) := fun c => StableHlo.after hostOps3 (W23 m ρ c)
/-- A reference `hostOps3` does not write keeps its contents across it. -/
theorem W24_of (c : Dev nD) (r : Ref sig .tc) (h : r ∉ hostOps3_W) : W24 m ρ c (Proc.devRef .tc r) = W23 m ρ c (Proc.devRef .tc r) :=
  StableHlo.after_of_writes_sub hostOps3 _ hostOps3_writes h
theorem W24_args (c : Dev nD) : ∀ a ∈ argRefs, W24 m ρ c (Proc.devRef .tc a) = m ((c : Thread nD τ).loc a) :=
  fun a ha => (W24_of m ρ c a (hostOps3_args a ha)).trans (W23_args m ρ c a ha)
/-- The same read at the TensorCore's references (what region 3's proof data take). -/
abbrev V24 : (c : Dev nD) → (b : Ref sig .tc) → Buf (Elt F) ((c : Thread nD τ).loc b) := fun c b => W24 m ρ c b
/-- At region 3's exit: its arrays at what the pipeline leaves (the inputs as entered, each output's write-backs
    folded: `Dat.arrAt … N`), every other buffer as entered. -/
def W25 (c : Dev nD) : Valuation τ sig (Elt F) :=
  Pipeline.withArrays spec3 c (W24 m ρ c) fun w => (dat3 (V24 m ρ) c).arrAt w cfg3.N
theorem W25_arr (c : Dev nD) (w : Fin cfg3.W) :
    W25 m ρ c (Proc.devRef .tc (Pipeline.arrRef spec3 w)) = (dat3 (V24 m ρ) c).arrAt w cfg3.N := by
  unfold W25; exact Pipeline.withArrays_arr spec3 launch3.win.arr_inj c _ _ w
theorem W25_of_ne (c : Dev nD) (b : Ref sig .tc) (hb : ∀ w, Pipeline.arrRef spec3 w ≠ b) :
    W25 m ρ c (Proc.devRef .tc b) = W24 m ρ c (Proc.devRef .tc b) := by
  unfold W25; exact Pipeline.withArrays_of_ne spec3 c _ _ b hb
/-- A reference that is none of region 3's OUTPUT arrays keeps its entry contents across it: an input window's
    array is never written back (`Dat.arrAt_in`, `A_eq3`); any other buffer is left as is. -/
theorem W25_of (c : Dev nD) (r : Ref sig .tc) (h : ∀ w : Fin cfg3.W, Pipeline.arrRef spec3 w = r → (cfg3.win w).isOut = false) :
    W25 m ρ c (Proc.devRef .tc r) = W24 m ρ c (Proc.devRef .tc r) := by
  by_cases hw : ∃ w : Fin cfg3.W, Pipeline.arrRef spec3 w = r
  · obtain ⟨w, rfl⟩ := hw
    exact (W25_arr m ρ c w).trans (((dat3 (V24 m ρ) c).arrAt_in w (h w rfl) _).trans (A_eq3 (V24 m ρ) c w))
  · exact W25_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W25_args (c : Dev nD) : ∀ a ∈ argRefs, W25 m ρ c (Proc.devRef .tc a) = m ((c : Thread nD τ).loc a) :=
  fun a ha => (W25_of m ρ c a (argsIn3 a ha)).trans (W24_args m ρ c a ha)
/-- The same read at the TensorCore's references (region 3's exit contents). -/
abbrev V25 : (c : Dev nD) → (b : Ref sig .tc) → Buf (Elt F) ((c : Thread nD τ).loc b) := fun c b => W25 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V24 m ρ) c).arrAt w cfg3.N = V25 m ρ c (Pipeline.arrRef spec3 w) :=
  (W25_arr m ρ c w).symm
theorem hrest3 (c : Dev nD) : ∀ b, b ∉ Finset.univ.image (Pipeline.arrRef spec3) → V25 m ρ c b = V24 m ρ c b :=
  fun b hb => W25_of_ne m ρ c b fun w e => hb (Finset.mem_image.mpr ⟨w, Finset.mem_univ _, e⟩)

/-- After `hostOps4` (region 4's entry). -/
abbrev W26 : Dev nD → Valuation τ sig (Elt F) := fun c => StableHlo.after hostOps4 (W25 m ρ c)
/-- A reference `hostOps4` does not write keeps its contents across it. -/
theorem W26_of (c : Dev nD) (r : Ref sig .tc) (h : r ∉ hostOps4_W) : W26 m ρ c (Proc.devRef .tc r) = W25 m ρ c (Proc.devRef .tc r) :=
  StableHlo.after_of_writes_sub hostOps4 _ hostOps4_writes h
theorem W26_args (c : Dev nD) : ∀ a ∈ argRefs, W26 m ρ c (Proc.devRef .tc a) = m ((c : Thread nD τ).loc a) :=
  fun a ha => (W26_of m ρ c a (hostOps4_args a ha)).trans (W25_args m ρ c a ha)
/-- The same read at the TensorCore's references (what region 4's proof data take). -/
abbrev V26 : (c : Dev nD) → (b : Ref sig .tc) → Buf (Elt F) ((c : Thread nD τ).loc b) := fun c b => W26 m ρ c b
/-- At region 4's exit: its arrays at what the pipeline leaves (the inputs as entered, each output's write-backs
    folded: `Dat.arrAt … N`), every other buffer as entered. -/
def W27 (c : Dev nD) : Valuation τ sig (Elt F) :=
  Pipeline.withArrays spec4 c (W26 m ρ c) fun w => (dat4 (V26 m ρ) c).arrAt w cfg4.N
theorem W27_arr (c : Dev nD) (w : Fin cfg4.W) :
    W27 m ρ c (Proc.devRef .tc (Pipeline.arrRef spec4 w)) = (dat4 (V26 m ρ) c).arrAt w cfg4.N := by
  unfold W27; exact Pipeline.withArrays_arr spec4 launch4.win.arr_inj c _ _ w
theorem W27_of_ne (c : Dev nD) (b : Ref sig .tc) (hb : ∀ w, Pipeline.arrRef spec4 w ≠ b) :
    W27 m ρ c (Proc.devRef .tc b) = W26 m ρ c (Proc.devRef .tc b) := by
  unfold W27; exact Pipeline.withArrays_of_ne spec4 c _ _ b hb
/-- A reference that is none of region 4's OUTPUT arrays keeps its entry contents across it: an input window's
    array is never written back (`Dat.arrAt_in`, `A_eq4`); any other buffer is left as is. -/
theorem W27_of (c : Dev nD) (r : Ref sig .tc) (h : ∀ w : Fin cfg4.W, Pipeline.arrRef spec4 w = r → (cfg4.win w).isOut = false) :
    W27 m ρ c (Proc.devRef .tc r) = W26 m ρ c (Proc.devRef .tc r) := by
  by_cases hw : ∃ w : Fin cfg4.W, Pipeline.arrRef spec4 w = r
  · obtain ⟨w, rfl⟩ := hw
    exact (W27_arr m ρ c w).trans (((dat4 (V26 m ρ) c).arrAt_in w (h w rfl) _).trans (A_eq4 (V26 m ρ) c w))
  · exact W27_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
theorem W27_args (c : Dev nD) : ∀ a ∈ argRefs, W27 m ρ c (Proc.devRef .tc a) = m ((c : Thread nD τ).loc a) :=
  fun a ha => (W27_of m ρ c a (argsIn4 a ha)).trans (W26_args m ρ c a ha)
/-- The same read at the TensorCore's references (region 4's exit contents). -/
abbrev V27 : (c : Dev nD) → (b : Ref sig .tc) → Buf (Elt F) ((c : Thread nD τ).loc b) := fun c b => W27 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V26 m ρ) c).arrAt w cfg4.N = V27 m ρ c (Pipeline.arrRef spec4 w) :=
  (W27_arr m ρ c w).symm
theorem hrest4 (c : Dev nD) : ∀ b, b ∉ Finset.univ.image (Pipeline.arrRef spec4) → V27 m ρ c b = V26 m ρ c b :=
  fun b hb => W27_of_ne m ρ c b fun w e => hb (Finset.mem_image.mpr ⟨w, Finset.mem_univ _, e⟩)

/-- After `hostOps5` (region 5's entry). -/
abbrev W28 : Dev nD → Valuation τ sig (Elt F) := fun c => StableHlo.after hostOps5 (W27 m ρ c)
/-- A reference `hostOps5` does not write keeps its contents across it. -/
theorem W28_of (c : Dev nD) (r : Ref sig .tc) (h : r ∉ hostOps5_W) : W28 m ρ c (Proc.devRef .tc r) = W27 m ρ c (Proc.devRef .tc r) :=
  StableHlo.after_of_writes_sub hostOps5 _ hostOps5_writes h
theorem W28_args (c : Dev nD) : ∀ a ∈ argRefs, W28 m ρ c (Proc.devRef .tc a) = m ((c : Thread nD τ).loc a) :=
  fun a ha => (W28_of m ρ c a (hostOps5_args a ha)).trans (W27_args m ρ c a ha)
/-- The same read at the TensorCore's references (what region 5's proof data take). -/
abbrev V28 : (c : Dev nD) → (b : Ref sig .tc) → Buf (Elt F) ((c : Thread nD τ).loc b) := fun c b => W28 m ρ c b
/-- At region 5's exit: its arrays at what the pipeline leaves (the inputs as entered, each output's write-backs
    folded: `Dat.arrAt … N`), every other buffer as entered. -/
def W29 (c : Dev nD) : Valuation τ sig (Elt F) :=
  Pipeline.withArrays spec5 c (W28 m ρ c) fun w => (dat5 (V28 m ρ) c).arrAt w cfg5.N
theorem W29_arr (c : Dev nD) (w : Fin cfg5.W) :
    W29 m ρ c (Proc.devRef .tc (Pipeline.arrRef spec5 w)) = (dat5 (V28 m ρ) c).arrAt w cfg5.N := by
  unfold W29; exact Pipeline.withArrays_arr spec5 launch5.win.arr_inj c _ _ w
theorem W29_of_ne (c : Dev nD) (b : Ref sig .tc) (hb : ∀ w, Pipeline.arrRef spec5 w ≠ b) :
    W29 m ρ c (Proc.devRef .tc b) = W28 m ρ c (Proc.devRef .tc b) := by
  unfold W29; exact Pipeline.withArrays_of_ne spec5 c _ _ b hb
/-- A reference that is none of region 5's OUTPUT arrays keeps its entry contents across it: an input window's
    array is never written back (`Dat.arrAt_in`, `A_eq5`); any other buffer is left as is. -/
theorem W29_of (c : Dev nD) (r : Ref sig .tc) (h : ∀ w : Fin cfg5.W, Pipeline.arrRef spec5 w = r → (cfg5.win w).isOut = false) :
    W29 m ρ c (Proc.devRef .tc r) = W28 m ρ c (Proc.devRef .tc r) := by
  by_cases hw : ∃ w : Fin cfg5.W, Pipeline.arrRef spec5 w = r
  · obtain ⟨w, rfl⟩ := hw
    exact (W29_arr m ρ c w).trans (((dat5 (V28 m ρ) c).arrAt_in w (h w rfl) _).trans (A_eq5 (V28 m ρ) c w))
  · exact W29_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
theorem W29_args (c : Dev nD) : ∀ a ∈ argRefs, W29 m ρ c (Proc.devRef .tc a) = m ((c : Thread nD τ).loc a) :=
  fun a ha => (W29_of m ρ c a (argsIn5 a ha)).trans (W28_args m ρ c a ha)
/-- The same read at the TensorCore's references (region 5's exit contents). -/
abbrev V29 : (c : Dev nD) → (b : Ref sig .tc) → Buf (Elt F) ((c : Thread nD τ).loc b) := fun c b => W29 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V28 m ρ) c).arrAt w cfg5.N = V29 m ρ c (Pipeline.arrRef spec5 w) :=
  (W29_arr m ρ c w).symm
theorem hrest5 (c : Dev nD) : ∀ b, b ∉ Finset.univ.image (Pipeline.arrRef spec5) → V29 m ρ c b = V28 m ρ c b :=
  fun b hb => W29_of_ne m ρ c b fun w e => hb (Finset.mem_image.mpr ⟨w, Finset.mem_univ _, e⟩)

/-- After `hostOps6`. -/
abbrev W30 : Dev nD → Valuation τ sig (Elt F) := fun c => StableHlo.after hostOps6 (W29 m ρ c)
/-- A reference `hostOps6` does not write keeps its contents across it. -/
theorem W30_of (c : Dev nD) (r : Ref sig .tc) (h : r ∉ hostOps6_W) : W30 m ρ c (Proc.devRef .tc r) = W29 m ρ c (Proc.devRef .tc r) :=
  StableHlo.after_of_writes_sub hostOps6 _ hostOps6_writes h
theorem W30_args (c : Dev nD) : ∀ a ∈ argRefs, W30 m ρ c (Proc.devRef .tc a) = m ((c : Thread nD τ).loc a) :=
  fun a ha => (W30_of m ρ c a (hostOps6_args a ha)).trans (W29_args m ρ c a ha)

/-! ### The arguments end as launched: no host stretch writes one and no region may change one (a region reads it
    through an input window or bypasses it) -/

theorem W30_main_arg0 (c : Dev nD) : W30 m ρ c (Proc.devRef .tc main_arg0) = m ((c : Thread nD τ).loc main_arg0) :=
  W30_args m ρ c main_arg0 (by decide)
theorem W30_main_arg1 (c : Dev nD) : W30 m ρ c (Proc.devRef .tc main_arg1) = m ((c : Thread nD τ).loc main_arg1) :=
  W30_args m ρ c main_arg1 (by decide)
theorem W30_main_arg2 (c : Dev nD) : W30 m ρ c (Proc.devRef .tc main_arg2) = m ((c : Thread nD τ).loc main_arg2) :=
  W30_args m ρ c main_arg2 (by decide)
theorem W30_main_arg3 (c : Dev nD) : W30 m ρ c (Proc.devRef .tc main_arg3) = m ((c : Thread nD τ).loc main_arg3) :=
  W30_args m ρ c main_arg3 (by decide)
theorem W30_main_arg4 (c : Dev nD) : W30 m ρ c (Proc.devRef .tc main_arg4) = m ((c : Thread nD τ).loc main_arg4) :=
  W30_args m ρ c main_arg4 (by decide)
theorem W30_main_arg5 (c : Dev nD) : W30 m ρ c (Proc.devRef .tc main_arg5) = m ((c : Thread nD τ).loc main_arg5) :=
  W30_args m ρ c main_arg5 (by decide)
theorem W30_main_arg6 (c : Dev nD) : W30 m ρ c (Proc.devRef .tc main_arg6) = m ((c : Thread nD τ).loc main_arg6) :=
  W30_args m ρ c main_arg6 (by decide)
theorem W30_main_arg7 (c : Dev nD) : W30 m ρ c (Proc.devRef .tc main_arg7) = m ((c : Thread nD τ).loc main_arg7) :=
  W30_args m ρ c main_arg7 (by decide)
theorem W30_main_arg8 (c : Dev nD) : W30 m ρ c (Proc.devRef .tc main_arg8) = m ((c : Thread nD τ).loc main_arg8) :=
  W30_args m ρ c main_arg8 (by decide)
theorem W30_main_arg9 (c : Dev nD) : W30 m ρ c (Proc.devRef .tc main_arg9) = m ((c : Thread nD τ).loc main_arg9) :=
  W30_args m ρ c main_arg9 (by decide)
theorem W30_main_arg10 (c : Dev nD) : W30 m ρ c (Proc.devRef .tc main_arg10) = m ((c : Thread nD τ).loc main_arg10) :=
  W30_args m ρ c main_arg10 (by decide)
theorem W30_main_arg11 (c : Dev nD) : W30 m ρ c (Proc.devRef .tc main_arg11) = m ((c : Thread nD τ).loc main_arg11) :=
  W30_args m ρ c main_arg11 (by decide)
theorem W30_main_arg12 (c : Dev nD) : W30 m ρ c (Proc.devRef .tc main_arg12) = m ((c : Thread nD τ).loc main_arg12) :=
  W30_args m ρ c main_arg12 (by decide)
theorem W30_main_arg13 (c : Dev nD) : W30 m ρ c (Proc.devRef .tc main_arg13) = m ((c : Thread nD τ).loc main_arg13) :=
  W30_args m ρ c main_arg13 (by decide)
theorem W30_main_arg14 (c : Dev nD) : W30 m ρ c (Proc.devRef .tc main_arg14) = m ((c : Thread nD τ).loc main_arg14) :=
  W30_args m ρ c main_arg14 (by decide)
theorem W30_main_arg15 (c : Dev nD) : W30 m ρ c (Proc.devRef .tc main_arg15) = m ((c : Thread nD τ).loc main_arg15) :=
  W30_args m ρ c main_arg15 (by decide)
theorem W30_main_arg16 (c : Dev nD) : W30 m ρ c (Proc.devRef .tc main_arg16) = m ((c : Thread nD τ).loc main_arg16) :=
  W30_args m ρ c main_arg16 (by decide)

/-! ## The proof data family and the thread state -/

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V19 m ρ) c
  | ⟨1, _⟩ => fun c => dat1 (V20 m ρ) c
  | ⟨2, _⟩ => fun c => dat2 (V22 m ρ) c
  | ⟨3, _⟩ => fun c => dat3 (V24 m ρ) c
  | ⟨4, _⟩ => fun c => dat4 (V26 m ρ) c
  | ⟨5, _⟩ => fun c => dat5 (V28 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W30`, the generator register at some state. -/
abbrev Tₙ (c : Dev nD) : sProp 𝕄 := iprop(StableHlo.held (c : Thread nD τ) (Pipeline.ucRefs τ sig) (W30 m ρ c) ∗ ∃ r, prngReg c r)

/-! ## The regions as segments -/

set_option backward.isDefEq.respectTransparency.types false in
/-- REGION 0 (custom_call 0) over the thread state: entered from every unscoped buffer at `W19`, left at `W20`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V19 m ρ) c).loose
  hwaits := Pipeline.hwaits_of_owed_zero _ _ _ _ L lv 0 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec0 c (V19 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V19 m ρ c) (A_eq0 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V19 m ρ c) (V20 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 (custom_call 1) over the thread state: entered from every unscoped buffer at `W20`, left at `W21`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V20 m ρ) c).loose
  hwaits := Pipeline.hwaits_of_owed_zero _ _ _ _ L lv 1 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec1 c (V20 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V20 m ρ c) (A_eq1 (V20 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V20 m ρ c) (V21 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (custom_call 2) over the thread state: entered from every unscoped buffer at `W22`, left at `W23`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V22 m ρ) c).loose
  hwaits := Pipeline.hwaits_of_owed_zero _ _ _ _ L lv 2 fun _ _ => rfl
  pre c := iprop(StableHlo.held (c : Thread nD τ) (Pipeline.ucRefs τ sig) (W22 m ρ c) ∗ R c)
  post c := iprop(StableHlo.held (c : Thread nD τ) (Pipeline.ucRefs τ sig) (W23 m ρ c) ∗ R c)
  X c := iprop(∃ r, prngReg c r)
  Y c := iprop(∃ r, prngReg c r)
  Z c := Pipeline.unscopedRest (Ix := Unit) (Name := ℕ) (U := UR sig nD τ) (Lvl := ℕ) spec2 c (V22 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V22 m ρ c) (A_eq2 (V22 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V22 m ρ c) (V23 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 (custom_call 3) over the thread state: entered from every unscoped buffer at `W24`, left at `W25`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V24 m ρ) c).loose
  hwaits := Pipeline.hwaits_of_owed_zero _ _ _ _ L lv 3 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec3 c (V24 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V24 m ρ c) (A_eq3 (V24 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V24 m ρ c) (V25 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 (custom_call 4) over the thread state: entered from every unscoped buffer at `W26`, left at `W27`
    (what the next segment is entered from). Its arrays split out of the unscoped buffers
    (`arrays_of_unscopedBufs`) and put back at the exit contents (`unscopedBufs_of_arrays`); the generator register into the
    class invariant `ΦA` and out; nothing owed; no semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V26 m ρ) c).loose
  hwaits := Pipeline.hwaits_of_owed_zero _ _ _ _ L lv 4 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec4 c (V26 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V26 m ρ c) (A_eq4 (V26 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V26 m ρ c) (V27 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 (custom_call 5) over the thread state: entered from every unscoped buffer at `W28`, left at `W29`
    (what the next segment is entered from). Its arrays split out of the unscoped buffers
    (`arrays_of_unscopedBufs`) and put back at the exit contents (`unscopedBufs_of_arrays`); the generator register into the
    class invariant `ΦA` and out; nothing owed; no semaphore of the kernel's own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V28 m ρ) c).loose
  hwaits := Pipeline.hwaits_of_owed_zero _ _ _ _ L lv 5 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec5 c (V28 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V28 m ρ c) (A_eq5 (V28 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V28 m ρ c) (V29 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 30 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .region (reg0 m ρ),
    .region (reg1 m ρ),
    .host (hseg hostOps2 hostOps2_sub hostOps2_fresh (W21 m ρ)),
    .region (reg2 m ρ),
    .host (hseg hostOps3 hostOps3_sub hostOps3_fresh (W23 m ρ)),
    .region (reg3 m ρ),
    .host (hseg hostOps4 hostOps4_sub hostOps4_fresh (W25 m ρ)),
    .region (reg4 m ρ),
    .host (hseg hostOps5 hostOps5_sub hostOps5_fresh (W27 m ρ)),
    .region (reg5 m ρ),
    .host (hseg hostOps6 hostOps6_sub hostOps6_fresh (W29 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the launch lemma's implicit arguments are found by unifying its conclusion with this one, which takes unfolding plain
-- definitions in a metavariable's type
set_option backward.isDefEq.respectTransparency.types false in
/-- THE RUN, at any `F`: from any memory with zero counters, every weakly fair execution of `@main` terminates, nothing
    faulting, and every final state has every unscoped buffer at the last contents of the fold and every semaphore
    counter of the machine at zero. -/
theorem run_mem : θ_run defs (onTc (τ := τ) (main (F := F))) ⟨m, fun _ => 0, ρ⟩ (fun r => (∀ c : Dev nD,
      ∀ b ∈ Pipeline.ucRefs τ sig, r.2.mem (((c : Thread nD τ)).1, b) = W30 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W30 m ρ c b)
    (hfin := fun c s' => by
      iintro ⟨⟨Hh, -⟩, HSI⟩
      unfold StableHlo.held
      imodintro
      iapply (pointsTo_read_all (Pipeline.ucRefs τ sig) (fun b => (((c : Thread nD τ)).1, b)) (W30 m ρ c) s')
      isplitl [Hh] <;> iassumption)
    (hQ := fun s h hz => ⟨h, funext fun g => hz g (.inr (no_unscoped g.2))⟩)

/-- THE FRAME: the argument arrays end as launched, read off the run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c =>
      ⟨(h.1 c _ (mem_uc main_arg0 (by decide))).trans (W30_main_arg0 m ρ c),
       (h.1 c _ (mem_uc main_arg1 (by decide))).trans (W30_main_arg1 m ρ c),
       (h.1 c _ (mem_uc main_arg2 (by decide))).trans (W30_main_arg2 m ρ c),
       (h.1 c _ (mem_uc main_arg3 (by decide))).trans (W30_main_arg3 m ρ c),
       (h.1 c _ (mem_uc main_arg4 (by decide))).trans (W30_main_arg4 m ρ c),
       (h.1 c _ (mem_uc main_arg5 (by decide))).trans (W30_main_arg5 m ρ c),
       (h.1 c _ (mem_uc main_arg6 (by decide))).trans (W30_main_arg6 m ρ c),
       (h.1 c _ (mem_uc main_arg7 (by decide))).trans (W30_main_arg7 m ρ c),
       (h.1 c _ (mem_uc main_arg8 (by decide))).trans (W30_main_arg8 m ρ c),
       (h.1 c _ (mem_uc main_arg9 (by decide))).trans (W30_main_arg9 m ρ c),
       (h.1 c _ (mem_uc main_arg10 (by decide))).trans (W30_main_arg10 m ρ c),
       (h.1 c _ (mem_uc main_arg11 (by decide))).trans (W30_main_arg11 m ρ c),
       (h.1 c _ (mem_uc main_arg12 (by decide))).trans (W30_main_arg12 m ρ c),
       (h.1 c _ (mem_uc main_arg13 (by decide))).trans (W30_main_arg13 m ρ c),
       (h.1 c _ (mem_uc main_arg14 (by decide))).trans (W30_main_arg14 m ρ c),
       (h.1 c _ (mem_uc main_arg15 (by decide))).trans (W30_main_arg15 m ρ c),
       (h.1 c _ (mem_uc main_arg16 (by decide))).trans (W30_main_arg16 m ρ c)⟩, h.2⟩) (run_mem m ρ)

end Cert.KernelIdeal.Whole

end
-- ==== Proof.RefFrame.lean ====
/-
  The reference program's run. What its buffers hold at the end (`atEnd`), told apart into the contents before the loop
  (`atEntry`), after the loop (`atExit`) and after the last operations; the buffers each stretch of operations leaves alone;
  and the frame: the arguments are unchanged and no semaphore counter moves.
-/
module

public import proofs.«01_k».proof.Defs
public import proofs.«01_k».proof.Proof.Gen.ReferenceIdeal.Run

@[expose] public section

set_option maxRecDepth 100000

noncomputable section

namespace Cert.ReferenceIdeal.Whole

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]

/-- The buffers written before the loop. -/
abbrev pre_W : List (Ref sig .tc) := hostOps0_W ++ hostOps0_1_W ++ hostOps0_2_W ++ hostOps0_3_W ++ hostOps0_4_W ++ hostOps0_5_W ++ hostOps0_6_W ++ hostOps0_7_W ++ hostOps0_8_W ++ hostOps0_9_W ++ hostOps0_10_W ++ hostOps0_11_W ++ hostOps0_12_W ++ hostOps0_13_W ++ hostOps0_14_W ++ hostOps0_15_W ++ hostOps0_16_W ++ hostOps0_17_W ++ hostOps0_18_W

theorem pre_keep (V : Valuation τ sig (Elt F)) (r : Ref sig .tc) (h : r ∉ pre_W) :
    afterL preI V (Proc.devRef .tc r) = V (Proc.devRef .tc r) := by
  simp only [pre_W, List.mem_append, not_or] at h
  obtain ⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, h18⟩ := h
  simp only [afterL_cons, afterL_nil]
  rw [after_of_writes_sub hostOps0_18 _ hostOps0_18_writes h18,
    after_of_writes_sub hostOps0_17 _ hostOps0_17_writes h17,
    after_of_writes_sub hostOps0_16 _ hostOps0_16_writes h16,
    after_of_writes_sub hostOps0_15 _ hostOps0_15_writes h15,
    after_of_writes_sub hostOps0_14 _ hostOps0_14_writes h14,
    after_of_writes_sub hostOps0_13 _ hostOps0_13_writes h13,
    after_of_writes_sub hostOps0_12 _ hostOps0_12_writes h12,
    after_of_writes_sub hostOps0_11 _ hostOps0_11_writes h11,
    after_of_writes_sub hostOps0_10 _ hostOps0_10_writes h10,
    after_of_writes_sub hostOps0_9 _ hostOps0_9_writes h9,
    after_of_writes_sub hostOps0_8 _ hostOps0_8_writes h8,
    after_of_writes_sub hostOps0_7 _ hostOps0_7_writes h7,
    after_of_writes_sub hostOps0_6 _ hostOps0_6_writes h6,
    after_of_writes_sub hostOps0_5 _ hostOps0_5_writes h5,
    after_of_writes_sub hostOps0_4 _ hostOps0_4_writes h4,
    after_of_writes_sub hostOps0_3 _ hostOps0_3_writes h3,
    after_of_writes_sub hostOps0_2 _ hostOps0_2_writes h2,
    after_of_writes_sub hostOps0_1 _ hostOps0_1_writes h1,
    after_of_writes_sub hostOps0 _ hostOps0_writes h0]

/-- The buffers written by a trip of the loop. -/
abbrev body_W : List (Ref sig .tc) := while0Ops0_W ++ while0Ops0_1_W ++ while0Ops0_2_W ++ while0Ops0_3_W ++ while0Ops0_4_W ++ while0Ops0_5_W ++ while0Ops0_6_W

theorem body_keep (V : Valuation τ sig (Elt F)) (r : Ref sig .tc) (h : r ∉ body_W) :
    afterL bodyI V (Proc.devRef .tc r) = V (Proc.devRef .tc r) := by
  simp only [body_W, List.mem_append, not_or] at h
  obtain ⟨⟨⟨⟨⟨⟨h0, h1⟩, h2⟩, h3⟩, h4⟩, h5⟩, h6⟩ := h
  simp only [afterL_cons, afterL_nil]
  rw [after_of_writes_sub while0Ops0_6 _ while0Ops0_6_writes h6,
    after_of_writes_sub while0Ops0_5 _ while0Ops0_5_writes h5,
    after_of_writes_sub while0Ops0_4 _ while0Ops0_4_writes h4,
    after_of_writes_sub while0Ops0_3 _ while0Ops0_3_writes h3,
    after_of_writes_sub while0Ops0_2 _ while0Ops0_2_writes h2,
    after_of_writes_sub while0Ops0_1 _ while0Ops0_1_writes h1,
    after_of_writes_sub while0Ops0 _ while0Ops0_writes h0]

/-- The buffers that `hostOps0_19` writes. -/
abbrev hostOps0_19_W : List (Ref sig .tc) := [main_cst_14, main_v137, main_v138, main_cst_15, main_v139, main_v140, main_cst_16, main_v141]
theorem hostOps0_19_writes : (hostOps0_19 : List (HloOp τ sig (Elt F))).Forall fun op => op.writes ⊆ (hostOps0_19_W.map (Proc.devRef (τ := τ) .tc)).toFinset :=
  StableHlo.forall_writes_sub_of_map rfl
/-- The buffers that `hostOps0_20` writes. -/
abbrev hostOps0_20_W : List (Ref sig .tc) := [main_v142]
theorem hostOps0_20_writes : (hostOps0_20 : List (HloOp τ sig (Elt F))).Forall fun op => op.writes ⊆ (hostOps0_20_W.map (Proc.devRef (τ := τ) .tc)).toFinset :=
  StableHlo.forall_writes_sub_of_map rfl
/-- The buffers that `hostOps0_21` writes. -/
abbrev hostOps0_21_W : List (Ref sig .tc) := [main_v143, main_cst_17, main_v144, main_v145, main_v146, main_v147, main_v148, main_v149, main_v150, main_v151, main_v152, main_cst_18, main_v153, main_cst_19, main_v154, main_v155, main_cst_20, main_v156]
theorem hostOps0_21_writes : (hostOps0_21 : List (HloOp τ sig (Elt F))).Forall fun op => op.writes ⊆ (hostOps0_21_W.map (Proc.devRef (τ := τ) .tc)).toFinset :=
  StableHlo.forall_writes_sub_of_map rfl
/-- The buffers that `hostOps0_22` writes. -/
abbrev hostOps0_22_W : List (Ref sig .tc) := [main_v157]
theorem hostOps0_22_writes : (hostOps0_22 : List (HloOp τ sig (Elt F))).Forall fun op => op.writes ⊆ (hostOps0_22_W.map (Proc.devRef (τ := τ) .tc)).toFinset :=
  StableHlo.forall_writes_sub_of_map rfl
/-- The buffers that `hostOps0_23` writes. -/
abbrev hostOps0_23_W : List (Ref sig .tc) := [main_cst_21, main_v158, main_v159, main_cst_22, main_v160, main_cst_23, main_v161, main_v162, main_cst_24, main_v163]
theorem hostOps0_23_writes : (hostOps0_23 : List (HloOp τ sig (Elt F))).Forall fun op => op.writes ⊆ (hostOps0_23_W.map (Proc.devRef (τ := τ) .tc)).toFinset :=
  StableHlo.forall_writes_sub_of_map rfl
/-- The buffers that `hostOps0_24` writes. -/
abbrev hostOps0_24_W : List (Ref sig .tc) := [main_v164]
theorem hostOps0_24_writes : (hostOps0_24 : List (HloOp τ sig (Elt F))).Forall fun op => op.writes ⊆ (hostOps0_24_W.map (Proc.devRef (τ := τ) .tc)).toFinset :=
  StableHlo.forall_writes_sub_of_map rfl
/-- The buffers that `hostOps0_25` writes. -/
abbrev hostOps0_25_W : List (Ref sig .tc) := [main_v165, main_cst_25, main_v166, main_v167, main_cst_26, main_v168, main_cst_27, main_v169, main_v170, main_v171, main_v172, main_v173, main_v174, main_cst_28, main_v175, main_v176, main_v177, main_v178, main_cst_29, main_v179, main_v180, main_v181, main_cst_30, main_v182, main_v183, main_cst_31, main_v184, main_cst_32, main_v185, main_v186, main_v187, main_v188, main_v189, main_v190, main_cst_33, main_v191, main_v192, main_v193, main_v194]
theorem hostOps0_25_writes : (hostOps0_25 : List (HloOp τ sig (Elt F))).Forall fun op => op.writes ⊆ (hostOps0_25_W.map (Proc.devRef (τ := τ) .tc)).toFinset :=
  StableHlo.forall_writes_sub_of_map rfl

/-- The buffers written after the loop. -/
abbrev post_W : List (Ref sig .tc) := hostOps0_19_W ++ hostOps0_20_W ++ hostOps0_21_W ++ hostOps0_22_W ++ hostOps0_23_W ++ hostOps0_24_W ++ hostOps0_25_W

theorem post_keep (V : Valuation τ sig (Elt F)) (r : Ref sig .tc) (h : r ∉ post_W) :
    afterL postI V (Proc.devRef .tc r) = V (Proc.devRef .tc r) := by
  simp only [post_W, List.mem_append, not_or] at h
  obtain ⟨⟨⟨⟨⟨⟨h0, h1⟩, h2⟩, h3⟩, h4⟩, h5⟩, h6⟩ := h
  simp only [afterL_cons, afterL_nil]
  rw [after_of_writes_sub hostOps0_25 _ hostOps0_25_writes h6,
    after_of_writes_sub hostOps0_24 _ hostOps0_24_writes h5,
    after_of_writes_sub hostOps0_23 _ hostOps0_23_writes h4,
    after_of_writes_sub hostOps0_22 _ hostOps0_22_writes h3,
    after_of_writes_sub hostOps0_21 _ hostOps0_21_writes h2,
    after_of_writes_sub hostOps0_20 _ hostOps0_20_writes h1,
    after_of_writes_sub hostOps0_19 _ hostOps0_19_writes h0]

variable (m : (ℓ : Loc nD τ sig) → Buf (Elt F) ℓ) (ρ : Dev nD → PrngReg)

/-- The buffers as the loop finds them. -/
abbrev atEntry (c : Dev nD) : Valuation τ sig (Elt F) := entryContents preI m c
/-- The buffers as the loop leaves them. -/
abbrev atExit (c : Dev nD) : Valuation τ sig (Elt F) := after condOps (atK m 510 c)
/-- The buffers at the end of the run. -/
abbrev atEnd (c : Dev nD) : Valuation τ sig (Elt F) := afterL postI (atExit m c)

/-- The trips leave alone what no operation of the loop writes. -/
theorem atK_keep (c : Dev nD) (r : Ref sig .tc) (h : r ∉ condOps_W) (h' : r ∉ body_W) :
    ∀ k, atK m k c (Proc.devRef .tc r) = atEntry m c (Proc.devRef .tc r)
  | 0 => rfl
  | k + 1 => by
    rw [show atK m (k + 1) c = afterL bodyI (after condOps (atK m k c)) from rfl, body_keep _ _ h',
      after_of_writes_sub condOps _ condOps_writes h, atK_keep c r h h' k]

theorem exit_keep (c : Dev nD) (r : Ref sig .tc) (h : r ∉ condOps_W) (h' : r ∉ body_W) :
    atExit m c (Proc.devRef .tc r) = atEntry m c (Proc.devRef .tc r) := by
  rw [atExit, after_of_writes_sub condOps _ condOps_writes h, atK_keep m c r h h' 510]

/-- A buffer that no operation writes ends as it began. -/
theorem fin_keep (c : Dev nD) (r : Ref sig .tc) (h0 : r ∉ pre_W) (h1 : r ∉ condOps_W) (h2 : r ∉ body_W) (h3 : r ∉ post_W) :
    atEnd m c (Proc.devRef .tc r) = m ((c.tc : Thread nD τ).loc r) := by
  rw [atEnd, post_keep _ _ h3, exit_keep m c r h1 h2, atEntry, entryContents, pre_keep _ _ h0]

/-- Every buffer of the program ends at `atEnd`. -/
theorem run_fin : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd m c (Proc.devRef .tc b)) := run_fold m ρ

theorem fin_arg0 (c : Dev nD) : atEnd m c (Proc.devRef .tc main_arg0) = m ((c.tc : Thread nD τ).loc main_arg0) :=
  fin_keep m c main_arg0 (by decide +kernel) (by decide +kernel) (by decide +kernel) (by decide +kernel)
theorem fin_arg1 (c : Dev nD) : atEnd m c (Proc.devRef .tc main_arg1) = m ((c.tc : Thread nD τ).loc main_arg1) :=
  fin_keep m c main_arg1 (by decide +kernel) (by decide +kernel) (by decide +kernel) (by decide +kernel)
theorem fin_arg2 (c : Dev nD) : atEnd m c (Proc.devRef .tc main_arg2) = m ((c.tc : Thread nD τ).loc main_arg2) :=
  fin_keep m c main_arg2 (by decide +kernel) (by decide +kernel) (by decide +kernel) (by decide +kernel)
theorem fin_arg3 (c : Dev nD) : atEnd m c (Proc.devRef .tc main_arg3) = m ((c.tc : Thread nD τ).loc main_arg3) :=
  fin_keep m c main_arg3 (by decide +kernel) (by decide +kernel) (by decide +kernel) (by decide +kernel)
theorem fin_arg4 (c : Dev nD) : atEnd m c (Proc.devRef .tc main_arg4) = m ((c.tc : Thread nD τ).loc main_arg4) :=
  fin_keep m c main_arg4 (by decide +kernel) (by decide +kernel) (by decide +kernel) (by decide +kernel)
theorem fin_arg5 (c : Dev nD) : atEnd m c (Proc.devRef .tc main_arg5) = m ((c.tc : Thread nD τ).loc main_arg5) :=
  fin_keep m c main_arg5 (by decide +kernel) (by decide +kernel) (by decide +kernel) (by decide +kernel)
theorem fin_arg6 (c : Dev nD) : atEnd m c (Proc.devRef .tc main_arg6) = m ((c.tc : Thread nD τ).loc main_arg6) :=
  fin_keep m c main_arg6 (by decide +kernel) (by decide +kernel) (by decide +kernel) (by decide +kernel)
theorem fin_arg7 (c : Dev nD) : atEnd m c (Proc.devRef .tc main_arg7) = m ((c.tc : Thread nD τ).loc main_arg7) :=
  fin_keep m c main_arg7 (by decide +kernel) (by decide +kernel) (by decide +kernel) (by decide +kernel)
theorem fin_arg8 (c : Dev nD) : atEnd m c (Proc.devRef .tc main_arg8) = m ((c.tc : Thread nD τ).loc main_arg8) :=
  fin_keep m c main_arg8 (by decide +kernel) (by decide +kernel) (by decide +kernel) (by decide +kernel)
theorem fin_arg9 (c : Dev nD) : atEnd m c (Proc.devRef .tc main_arg9) = m ((c.tc : Thread nD τ).loc main_arg9) :=
  fin_keep m c main_arg9 (by decide +kernel) (by decide +kernel) (by decide +kernel) (by decide +kernel)
theorem fin_arg10 (c : Dev nD) : atEnd m c (Proc.devRef .tc main_arg10) = m ((c.tc : Thread nD τ).loc main_arg10) :=
  fin_keep m c main_arg10 (by decide +kernel) (by decide +kernel) (by decide +kernel) (by decide +kernel)
theorem fin_arg11 (c : Dev nD) : atEnd m c (Proc.devRef .tc main_arg11) = m ((c.tc : Thread nD τ).loc main_arg11) :=
  fin_keep m c main_arg11 (by decide +kernel) (by decide +kernel) (by decide +kernel) (by decide +kernel)
theorem fin_arg12 (c : Dev nD) : atEnd m c (Proc.devRef .tc main_arg12) = m ((c.tc : Thread nD τ).loc main_arg12) :=
  fin_keep m c main_arg12 (by decide +kernel) (by decide +kernel) (by decide +kernel) (by decide +kernel)
theorem fin_arg13 (c : Dev nD) : atEnd m c (Proc.devRef .tc main_arg13) = m ((c.tc : Thread nD τ).loc main_arg13) :=
  fin_keep m c main_arg13 (by decide +kernel) (by decide +kernel) (by decide +kernel) (by decide +kernel)
theorem fin_arg14 (c : Dev nD) : atEnd m c (Proc.devRef .tc main_arg14) = m ((c.tc : Thread nD τ).loc main_arg14) :=
  fin_keep m c main_arg14 (by decide +kernel) (by decide +kernel) (by decide +kernel) (by decide +kernel)
theorem fin_arg15 (c : Dev nD) : atEnd m c (Proc.devRef .tc main_arg15) = m ((c.tc : Thread nD τ).loc main_arg15) :=
  fin_keep m c main_arg15 (by decide +kernel) (by decide +kernel) (by decide +kernel) (by decide +kernel)
theorem fin_arg16 (c : Dev nD) : atEnd m c (Proc.devRef .tc main_arg16) = m ((c.tc : Thread nD τ).loc main_arg16) :=
  fin_keep m c main_arg16 (by decide +kernel) (by decide +kernel) (by decide +kernel) (by decide +kernel)

/-- The frame: the arguments end as they began, and every semaphore counter is at zero. -/
theorem frame : θ_run (defs (F := F)) (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16))
    ∧ r.2.sem = fun _ => 0) :=
  (θ_run defs _ _).mono (fun r h => ⟨fun c => ⟨(h c main_arg0 rfl).trans (fin_arg0 m c), (h c main_arg1 rfl).trans (fin_arg1 m c), (h c main_arg2 rfl).trans (fin_arg2 m c), (h c main_arg3 rfl).trans (fin_arg3 m c), (h c main_arg4 rfl).trans (fin_arg4 m c), (h c main_arg5 rfl).trans (fin_arg5 m c), (h c main_arg6 rfl).trans (fin_arg6 m c), (h c main_arg7 rfl).trans (fin_arg7 m c), (h c main_arg8 rfl).trans (fin_arg8 m c), (h c main_arg9 rfl).trans (fin_arg9 m c), (h c main_arg10 rfl).trans (fin_arg10 m c), (h c main_arg11 rfl).trans (fin_arg11 m c), (h c main_arg12 rfl).trans (fin_arg12 m c), (h c main_arg13 rfl).trans (fin_arg13 m c), (h c main_arg14 rfl).trans (fin_arg14 m c), (h c main_arg15 rfl).trans (fin_arg15 m c), (h c main_arg16 rfl).trans (fin_arg16 m c)⟩, sem_eq_zero_of_no_sems (by decide) r.2⟩) (run_fin m ρ)

end Cert.ReferenceIdeal.Whole

end
-- ==== Proof.Spec.lean ====
/-
  What both programs compute, over the extended reals and with nothing of either program in it: the encoders, the
  softmax, the order of a row, the clustering of a row, its refinement, and the five results.
-/
module

public import Idealize.ShloMosaic.Lib.Pipeline.ValueKit
public import Idealize.ShloMosaic.Lib.IdealHost

@[expose] public section

noncomputable section

namespace Cert.Spec

open Idealize.ShloMosaic

/-! ## The arguments -/

/-- The seventeen arguments, as functions of their coordinates. -/
structure Args where
  a0 : Fin 4 → Fin 512 → Fin 2048 → EReal
  a1 : Fin 1024 → Fin 1024 → Fin 3 → EReal
  a2 : Fin 1024 → EReal
  a3 : Fin 20 → Fin 1024 → EReal
  a4 : Fin 20 → EReal
  a5 : Fin 1024 → Fin 1024 → Fin 3 → EReal
  a6 : Fin 1024 → EReal
  a7 : Fin 20 → Fin 1024 → EReal
  a8 : Fin 20 → EReal
  a9 : Fin 1024 → Fin 1024 → Fin 3 → EReal
  a10 : Fin 1024 → EReal
  a11 : Fin 1024 → EReal
  a12 : EReal
  a13 : Fin 1024 → Fin 1024 → Fin 3 → EReal
  a14 : Fin 1024 → EReal
  a15 : Fin 1024 → EReal
  a16 : EReal

/-! ## The encoders -/

/-- Row `a` of a sequence with one row of zeros put before it and one after it. -/
def pad (x : Fin 512 → Fin 1024 → EReal) (a : ℕ) (i : Fin 1024) : EReal :=
  if h : 1 ≤ a ∧ a - 1 < 512 then x ⟨a - 1, h.2⟩ i else 0

/-- One output of an encoder at step `t`: three taps over the padded sequence, a bias, a rectifier, then a linear
    form of the hidden units. -/
def enc (x : Fin 512 → Fin 1024 → EReal) (w : Fin 1024 → Fin 1024 → Fin 3 → EReal) (b : Fin 1024 → EReal)
    (w2 : Fin 1024 → EReal) (b2 : EReal) (t : Fin 512) : EReal :=
  (∑ j, max ((∑ i, pad x t.val i * w j i 0) + (∑ i, pad x (1 + t.val) i * w j i 1)
    + (∑ i, pad x (2 + t.val) i * w j i 2) + b j) 0 * w2 j) + b2

theorem pad_mid (x : Fin 512 → Fin 1024 → EReal) (t : Fin 512) (i : Fin 1024) : pad x (1 + t.val) i = x t i := by
  unfold pad
  rw [dif_pos (by omega)]
  exact congrArg (x · i) (Fin.ext (by show 1 + t.val - 1 = t.val; omega))

/-- An encoder's output with the middle tap on the sequence itself. -/
theorem enc_mid (x : Fin 512 → Fin 1024 → EReal) (w : Fin 1024 → Fin 1024 → Fin 3 → EReal) (b : Fin 1024 → EReal)
    (w2 : Fin 1024 → EReal) (b2 : EReal) (t : Fin 512) : enc x w b w2 b2 t =
      (∑ j, max ((∑ i, pad x t.val i * w j i 0) + (∑ i, x t i * w j i 1)
        + (∑ i, pad x (2 + t.val) i * w j i 2) + b j) 0 * w2 j) + b2 := by
  unfold enc
  simp only [pad_mid]

/-- The first and the second half of the features of sequence `n`. -/
def rgb (A : Args) (n : Fin 4) (t : Fin 512) (i : Fin 1024) : EReal := A.a0 n t ⟨i.val, by omega⟩
def flow (A : Args) (n : Fin 4) (t : Fin 512) (i : Fin 1024) : EReal := A.a0 n t ⟨1024 + i.val, by omega⟩

/-- The class scores and the attention score of a step, each the sum of two encoders. -/
def cas (A : Args) (n : Fin 4) (t : Fin 512) (k : Fin 20) : EReal :=
  enc (rgb A n) A.a1 A.a2 (A.a3 k) (A.a4 k) t + enc (flow A n) A.a5 A.a6 (A.a7 k) (A.a8 k) t
def att (A : Args) (n : Fin 4) (t : Fin 512) : EReal :=
  enc (rgb A n) A.a9 A.a10 A.a11 A.a12 t + enc (flow A n) A.a13 A.a14 A.a15 A.a16 t

/-! ## Softmax, logistic function, segment scores -/

/-- The softmax of twenty values, their largest subtracted first. -/
def soft (c : Fin 20 → EReal) (k : Fin 20) : EReal :=
  Ideal.div (Ideal.exp (c k - Finset.univ.fold max ⊥ c)) (∑ j, Ideal.exp (c j - Finset.univ.fold max ⊥ c))

def sigm (a : EReal) : EReal := Ideal.div 1 (1 + Ideal.exp (-a))

def seg (A : Args) (n : Fin 4) (t : Fin 512) (k : Fin 20) : EReal :=
  Ideal.div (soft (cas A n t) k + sigm (att A n t)) 2

/-- The segment scores of one sequence and class, over time. -/
def row (A : Args) (r : Fin 80) (t : Fin 512) : EReal := seg A ⟨r.val / 20, by omega⟩ t ⟨r.val % 20, by omega⟩

/-! ## The order of a row -/

/-- Step `v` comes before step `u`: the larger score first, of equal scores the earlier step. -/
def before (s : Fin 512 → EReal) (v u : Fin 512) : Prop := s u < s v ∨ (s v = s u ∧ v < u)

instance (s : Fin 512 → EReal) (v u : Fin 512) : Decidable (before s v u) := Classical.dec _

theorem before_irrefl (s : Fin 512 → EReal) (u : Fin 512) : ¬ before s u u := by simp [before]

theorem before_trans (s : Fin 512 → EReal) {a b c : Fin 512} (h : before s a b) (h' : before s b c) : before s a c := by
  rcases h with h | ⟨h, k⟩ <;> rcases h' with h' | ⟨h', k'⟩
  · exact .inl (h'.trans h)
  · exact .inl (h' ▸ h)
  · exact .inl (h ▸ h')
  · exact .inr ⟨h.trans h', k.trans k'⟩

theorem before_total (s : Fin 512 → EReal) {a b : Fin 512} (h : a ≠ b) : before s a b ∨ before s b a := by
  rcases lt_trichotomy (s a) (s b) with k | k | k
  · exact .inr (.inl k)
  · rcases lt_or_gt_of_ne h with l | l
    · exact .inl (.inr ⟨k, l⟩)
    · exact .inr (.inr ⟨k.symm, l⟩)
  · exact .inl (.inl k)

/-- How many steps come before `u`. -/
def rank (s : Fin 512 → EReal) (u : Fin 512) : ℕ := (Finset.univ.filter (before s · u)).card

theorem rank_lt_rank (s : Fin 512 → EReal) {a b : Fin 512} (h : before s a b) : rank s a < rank s b := by
  refine Finset.card_lt_card ((Finset.ssubset_iff_of_subset fun x hx => ?_).2 ⟨a, ?_, ?_⟩)
  · simp only [Finset.mem_filter, Finset.mem_univ, true_and] at hx ⊢; exact before_trans s hx h
  · simpa using h
  · simpa using before_irrefl s a

theorem rank_lt (s : Fin 512 → EReal) (u : Fin 512) : rank s u < 512 := by
  have : rank s u < (Finset.univ : Finset (Fin 512)).card :=
    Finset.card_lt_card ((Finset.ssubset_iff_of_subset (Finset.filter_subset _ _)).2 ⟨u, Finset.mem_univ _, by simpa using before_irrefl s u⟩)
  simpa using this

theorem rank_inj (s : Fin 512 → EReal) : Function.Injective fun u => (⟨rank s u, rank_lt s u⟩ : Fin 512) := by
  intro a b h
  by_contra k
  have h : rank s a = rank s b := congrArg Fin.val h
  rcases before_total s k with l | l
  · have := rank_lt_rank s l; omega
  · have := rank_lt_rank s l; omega

/-- The rank of a step, as a permutation of the steps. -/
def rk (s : Fin 512 → EReal) : Equiv.Perm (Fin 512) := Equiv.ofBijective _ (Finite.injective_iff_bijective.1 (rank_inj s))

theorem rk_val (s : Fin 512 → EReal) (u : Fin 512) : (rk s u).val = rank s u := rfl

/-- Whoever does not come before `u` and is not `u` comes after it. -/
theorem rank_after (s : Fin 512 → EReal) (u : Fin 512) : (Finset.univ.filter (before s u ·)).card + rank s u = 511 := by
  have h1 : Finset.univ.filter (before s · u) ∪ Finset.univ.filter (before s u ·) = Finset.univ.erase u := by
    ext x
    simp only [Finset.mem_union, Finset.mem_filter, Finset.mem_univ, true_and, Finset.mem_erase, and_true]
    refine ⟨?_, fun h => before_total s h⟩
    rintro (h | h) rfl <;> exact before_irrefl s _ h
  have h2 : Disjoint (Finset.univ.filter (before s · u)) (Finset.univ.filter (before s u ·)) := by
    rw [Finset.disjoint_left]
    intro x hx hy
    simp only [Finset.mem_filter, Finset.mem_univ, true_and] at hx hy
    exact before_irrefl s x (before_trans s hx hy)
  have := Finset.card_union_of_disjoint h2
  rw [h1, Finset.card_erase_of_mem (Finset.mem_univ u), Finset.card_univ, Fintype.card_fin] at this
  unfold rank
  omega

/-- The scores in order, the largest first. -/
def srt (s : Fin 512 → EReal) (i : Fin 512) : EReal := s ((rk s).symm i)

/-! ## The clustering of a row, from its scores in order -/

/-- The two clusters' sums and counts. -/
structure Car where
  ps : EReal
  pn : EReal
  ns : EReal
  nn : EReal

/-- The value is no farther from the centre of the positives than from the centre of the negatives. -/
def near (v : EReal) (a : Car) : Prop :=
  FloatOps.absf (F := Ideal) (φ := .f32) (v - Ideal.div a.ps a.pn) ≤ FloatOps.absf (F := Ideal) (φ := .f32) (v - Ideal.div a.ns a.nn)

instance (v : EReal) (a : Car) : Decidable (near v a) :=
  inferInstanceAs (Decidable ((_ : EReal) ≤ _))

/-- One value joins its cluster; the positives take it in with weight one over `i1`. -/
def step (i1 v : EReal) (a : Car) : Car :=
  if near v a then ⟨a.ps + Ideal.div v i1, a.pn + Ideal.div 1 i1, a.ns, a.nn⟩ else ⟨a.ps, a.pn, a.ns + v, a.nn + 1⟩

/-- The sums and counts before trip `k`, which takes in value `k + 1`. -/
def carry (v : Fin 512 → EReal) : ℕ → Car
  | 0 => ⟨v 0, 1, v 511, 1⟩
  | k + 1 => if h : k + 1 < 512 then step ((k + 2 : ℕ) : EReal) (v ⟨k + 1, h⟩) (carry v k) else carry v k

/-- The mask in order: the first value is positive, the last negative, the others by their trip's comparison. -/
def msk (v : Fin 512 → EReal) (i : Fin 512) : EReal :=
  if i.val = 0 then 1 else if i.val = 511 then 0 else if near (v i) (carry v (i.val - 1)) then 1 else 0

theorem msk_01 (v : Fin 512 → EReal) (i : Fin 512) : msk v i = 0 ∨ msk v i = 1 := by
  unfold msk; split_ifs <;> simp

/-- The count of the positives (one where there is none) and their mean score. -/
def cnt (q : EReal) : EReal := if q = 0 then 1 else q
def mean (v : Fin 512 → EReal) : EReal := Ideal.div (∑ i, msk v i * v i) (cnt (∑ i, msk v i))

/-- The refined mask in order: positives below the mean are dropped. -/
def refined (v : Fin 512 → EReal) (i : Fin 512) : EReal := if mean v ≤ v i then msk v i else 0

/-- The refined mask of a row, over time. -/
def mask (s : Fin 512 → EReal) (u : Fin 512) : EReal := refined (srt s) (rk s u)

/-! ## The results -/

def segMask (A : Args) (n : Fin 4) (t : Fin 512) (k : Fin 20) : EReal := mask (fun u => seg A n u k) t

def act (A : Args) (n : Fin 4) : Fin 20 → EReal :=
  soft fun k => Ideal.div (∑ t, cas A n t k * segMask A n t k) (cnt (∑ t, segMask A n t k))

def bkg (A : Args) (n : Fin 4) : Fin 20 → EReal :=
  soft fun k => Ideal.div (∑ t, cas A n t k * (1 - segMask A n t k)) (cnt (∑ t, (1 - segMask A n t k)))

/-! ## Constants, words and lanes -/

theorem bits_neg_inf : Ideal.ofBits .f32 4286578688#32 = ⊥ := by simp [Ideal.ofBits, Ideal.ieee]

theorem bits_half : Ideal.ofBits .f32 1056964608#32 = ((1 / 2 : ℝ) : EReal) := by
  simp [Ideal.ofBits, Ideal.ieee, -EReal.coe_mul]; norm_num

theorem bits_two : Ideal.ofBits .f32 1073741824#32 = 2 := by
  rw [show (2 : EReal) = ((2 : ℝ) : EReal) by norm_cast]
  simp [Ideal.ofBits, Ideal.ieee, -EReal.coe_mul]; norm_num

theorem bits_511 : Ideal.ofBits .f32 1140817920#32 = ((511 : ℝ) : EReal) := by
  simp [Ideal.ofBits, Ideal.ieee, -EReal.coe_mul]; norm_num

/-- Halving by a product is halving by a quotient. -/
theorem mul_half (x : EReal) : x * Ideal.ofBits .f32 1056964608#32 = Ideal.div x 2 := by
  rw [bits_half]; unfold Ideal.div
  rw [if_neg (by norm_num)]
  congr 1
  rw [show (2 : EReal) = ((2 : ℝ) : EReal) by norm_cast, ← EReal.coe_inv]; norm_num

theorem sitofp_zero : FloatOps.sitofp (F := Ideal) FTy.f32 0#32 = (0 : EReal) := by
  show (((0#32 : BitVec 32).toInt : ℝ) : EReal) = 0
  simp

/-- A truth value widened to a word and made a number is one or zero. -/
theorem sitofp_bool (p : Prop) [Decidable p] :
    FloatOps.sitofp (F := Ideal) FTy.f32 (BitVec.setWidth 32 (BitVec.ofBool (decide p))) = (if p then 1 else 0 : EReal) := by
  by_cases h : p
  · simp only [h, decide_true, if_true]
    show ((((BitVec.setWidth 32 (BitVec.ofBool true)) : BitVec 32).toInt : ℝ) : EReal) = 1
    simp
  · simp only [h, decide_false, if_false]
    show ((((BitVec.setWidth 32 (BitVec.ofBool false)) : BitVec 32).toInt : ℝ) : EReal) = 0
    simp

/-- A small number's word, made a number, is the number. -/
theorem sitofp_nat {n : ℕ} (h : n < 1024) : FloatOps.sitofp (F := Ideal) FTy.f32 (BitVec.ofNat 32 n) = (n : EReal) := by
  show (((BitVec.ofNat 32 n).toInt : ℝ) : EReal) = n
  rw [BitVec.toInt_eq_toNat_of_lt (by simp; omega), BitVec.toNat_ofNat, Nat.mod_eq_of_lt (by omega)]
  simp

theorem uitofp_bool (p : Prop) [Decidable p] :
    FloatOps.uitofp (F := Ideal) FTy.f32 (BitVec.ofBool (decide p)) = (if p then 1 else 0 : EReal) := by
  by_cases h : p
  · simp only [h, decide_true, if_true]
    show ((((BitVec.ofBool true) : BitVec 1).toNat : ℝ) : EReal) = 1
    simp
  · simp only [h, decide_false, if_false]
    show ((((BitVec.ofBool false) : BitVec 1).toNat : ℝ) : EReal) = 0
    simp

theorem lane_lt (x n : ℕ) (hx : x < 1024) (hn : n < 1024) :
    IntOp.cmpi CmpIPredicate.slt (BitVec.ofNat 32 x) (BitVec.ofNat 32 n) = BitVec.ofBool (decide (x < n)) := by
  show BitVec.ofBool ((BitVec.ofNat 32 x).slt (BitVec.ofNat 32 n)) = _
  rw [BitVec.slt_eq_decide, BitVec.toInt_eq_toNat_of_lt (by simp; omega), BitVec.toInt_eq_toNat_of_lt (by simp; omega)]
  simp only [BitVec.toNat_ofNat]
  rw [Nat.mod_eq_of_lt (by omega), Nat.mod_eq_of_lt (by omega)]
  simp

theorem select_dec {α : Type} (p : Prop) [Decidable p] (a b : α) :
    Scalar.select (BitVec.ofBool (decide p)) a b = if p then a else b := by
  by_cases h : p <;> simp [Scalar.select, h]

/-- A sum over 32 lanes of which the last twelve hold zero. -/
theorem sum_lanes (f : Fin 32 → EReal) (h : ∀ x : Fin 32, 20 ≤ x.val → f x = 0) :
    ∑ x, f x = ∑ k : Fin 20, f ⟨k.val, by omega⟩ := by
  have := Fin.sum_univ_add (a := 20) (b := 12) f
  rw [show (∑ x, f x) = ∑ x : Fin (20 + 12), f x from rfl, this, Finset.sum_eq_zero (s := Finset.univ) (f := fun i : Fin 12 => f (Fin.natAdd 20 i)), add_zero]
  · rfl
  · intro i _; exact h _ (by simp)

/-- The largest of 32 lanes of which the last twelve hold minus infinity. -/
theorem fold_lanes (f : Fin 32 → EReal) (h : ∀ x : Fin 32, 20 ≤ x.val → f x = ⊥) :
    Finset.univ.fold max ⊥ f = Finset.univ.fold max ⊥ fun k : Fin 20 => f ⟨k.val, by omega⟩ := by
  refine le_antisymm ?_ ?_
  · refine (Finset.fold_max_le _).2 ⟨bot_le, fun x _ => ?_⟩
    by_cases k : x.val < 20
    · exact (Finset.le_fold_max _).2 (.inr ⟨⟨x.val, k⟩, Finset.mem_univ _, le_rfl⟩)
    · rw [h x (by omega)]; exact bot_le
  · refine (Finset.fold_max_le _).2 ⟨bot_le, fun k _ => ?_⟩
    exact (Finset.le_fold_max _).2 (.inr ⟨⟨k.val, by omega⟩, Finset.mem_univ _, le_rfl⟩)

end Cert.Spec

end
-- ==== Proof.KHost.lean ====
/-
  What the host prepares for region 0: the padded sequences, the taps, the biases and the linear heads of the four
  encoders, each stacked along a leading axis and filled up with zeros.
-/
module

public import proofs.«01_k».proof.Proof.Run
public import proofs.«01_k».proof.Proof.Spec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

open Cert.Spec

variable (m : (ℓ : Loc nD τ sig) → Buf (Elt Ideal) ℓ) (ρ : Dev nD → PrngReg)

/-- The arguments of the run, index by index. -/
def args (c : Dev nD) : Args where
  a0 n t x := (m ((c : Thread nD τ).loc main_arg0) : FVec Ideal S4x512x2048 .f32) (ix3 n t x)
  a1 j i t := (m ((c : Thread nD τ).loc main_arg1) : FVec Ideal S1024x1024x3 .f32) (ix3 j i t)
  a2 j := (m ((c : Thread nD τ).loc main_arg2) : FVec Ideal S1024 .f32) (ix1 j)
  a3 k j := (m ((c : Thread nD τ).loc main_arg3) : FVec Ideal S20x1024x1 .f32) (ix3 k j 0)
  a4 k := (m ((c : Thread nD τ).loc main_arg4) : FVec Ideal S20 .f32) (ix1 k)
  a5 j i t := (m ((c : Thread nD τ).loc main_arg5) : FVec Ideal S1024x1024x3 .f32) (ix3 j i t)
  a6 j := (m ((c : Thread nD τ).loc main_arg6) : FVec Ideal S1024 .f32) (ix1 j)
  a7 k j := (m ((c : Thread nD τ).loc main_arg7) : FVec Ideal S20x1024x1 .f32) (ix3 k j 0)
  a8 k := (m ((c : Thread nD τ).loc main_arg8) : FVec Ideal S20 .f32) (ix1 k)
  a9 j i t := (m ((c : Thread nD τ).loc main_arg9) : FVec Ideal S1024x1024x3 .f32) (ix3 j i t)
  a10 j := (m ((c : Thread nD τ).loc main_arg10) : FVec Ideal S1024 .f32) (ix1 j)
  a11 j := (m ((c : Thread nD τ).loc main_arg11) : FVec Ideal S1x1024x1 .f32) (ix3 0 j 0)
  a12 := (m ((c : Thread nD τ).loc main_arg12) : FVec Ideal S1 .f32) (ix1 0)
  a13 j i t := (m ((c : Thread nD τ).loc main_arg13) : FVec Ideal S1024x1024x3 .f32) (ix3 j i t)
  a14 j := (m ((c : Thread nD τ).loc main_arg14) : FVec Ideal S1024 .f32) (ix1 j)
  a15 j := (m ((c : Thread nD τ).loc main_arg15) : FVec Ideal S1x1024x1 .f32) (ix3 0 j 0)
  a16 := (m ((c : Thread nD τ).loc main_arg16) : FVec Ideal S1 .f32) (ix1 0)

theorem x_at (c : Dev nD) (n : Fin 4) (p : Fin 2) (a : Fin 514) (i : Fin 1024) :
    (W19 m ρ c (Proc.devRef .tc main_v2) : FVec Ideal S4x2x514x1024 .f32) (ix4 n p a i) =
      pad (fun t i => (args m c).a0 n t ⟨p.val * 1024 + i.val, by omega⟩) a.val i := by
  unfold W19 W18 W17 W16 W15 W14 W13 W12 W11 W10 W9 W8 W7 W6 W5 W4 W3 W2 W1
  after_reads_at
  rw [sitofp_zero]
  rfl

theorem w_at0 (c : Dev nD) (a : Fin 3) (i j : Fin 1024) :
    (W19 m ρ c (Proc.devRef .tc main_v11) : FVec Ideal S4x3x1024x1024 .f32) (ix4 0 a i j) = (args m c).a1 j i a := by
  unfold W19 W18 W17 W16 W15 W14 W13 W12 W11 W10 W9 W8 W7 W6 W5 W4 W3 W2 W1
  after_reads_at
  after_reads_at
  rfl

theorem b_at0 (c : Dev nD) (j : Fin 1024) :
    (W19 m ρ c (Proc.devRef .tc main_v17) : FVec Ideal S4x1x1024 .f32) (ix3 0 0 j) = (args m c).a2 j := by
  unfold W19 W18 W17 W16 W15 W14 W13 W12 W11 W10 W9 W8 W7 W6 W5 W4 W3 W2 W1
  after_reads_at
  after_reads_at
  rfl

theorem h_at0 (c : Dev nD) (j : Fin 1024) (k : Fin 32) (h : k.val < 20) :
    (W19 m ρ c (Proc.devRef .tc main_v34) : FVec Ideal S4x1024x32 .f32) (ix3 0 j k) = (args m c).a3 ⟨k.val, h⟩ j := by
  unfold W19 W18 W17 W16 W15 W14 W13 W12 W11 W10 W9 W8 W7 W6 W5 W4 W3 W2 W1
  after_reads_at
  after_reads_at
  rw [dif_pos h]
  rfl

theorem d_at0 (c : Dev nD) (k : Fin 32) (h : k.val < 20) :
    (W19 m ρ c (Proc.devRef .tc main_v44) : FVec Ideal S4x1x32 .f32) (ix3 0 0 k) = (args m c).a4 ⟨k.val, h⟩ := by
  unfold W19 W18 W17 W16 W15 W14 W13 W12 W11 W10 W9 W8 W7 W6 W5 W4 W3 W2 W1
  after_reads_at
  after_reads_at
  rw [dif_pos h]
  rfl

theorem w_at1 (c : Dev nD) (a : Fin 3) (i j : Fin 1024) :
    (W19 m ρ c (Proc.devRef .tc main_v11) : FVec Ideal S4x3x1024x1024 .f32) (ix4 1 a i j) = (args m c).a5 j i a := by
  unfold W19 W18 W17 W16 W15 W14 W13 W12 W11 W10 W9 W8 W7 W6 W5 W4 W3 W2 W1
  after_reads_at
  after_reads_at
  rfl

theorem b_at1 (c : Dev nD) (j : Fin 1024) :
    (W19 m ρ c (Proc.devRef .tc main_v17) : FVec Ideal S4x1x1024 .f32) (ix3 1 0 j) = (args m c).a6 j := by
  unfold W19 W18 W17 W16 W15 W14 W13 W12 W11 W10 W9 W8 W7 W6 W5 W4 W3 W2 W1
  after_reads_at
  after_reads_at
  rfl

theorem h_at1 (c : Dev nD) (j : Fin 1024) (k : Fin 32) (h : k.val < 20) :
    (W19 m ρ c (Proc.devRef .tc main_v34) : FVec Ideal S4x1024x32 .f32) (ix3 1 j k) = (args m c).a7 ⟨k.val, h⟩ j := by
  unfold W19 W18 W17 W16 W15 W14 W13 W12 W11 W10 W9 W8 W7 W6 W5 W4 W3 W2 W1
  after_reads_at
  after_reads_at
  rw [dif_pos h]
  rfl

theorem d_at1 (c : Dev nD) (k : Fin 32) (h : k.val < 20) :
    (W19 m ρ c (Proc.devRef .tc main_v44) : FVec Ideal S4x1x32 .f32) (ix3 1 0 k) = (args m c).a8 ⟨k.val, h⟩ := by
  unfold W19 W18 W17 W16 W15 W14 W13 W12 W11 W10 W9 W8 W7 W6 W5 W4 W3 W2 W1
  after_reads_at
  after_reads_at
  rw [dif_pos h]
  rfl

theorem w_at2 (c : Dev nD) (a : Fin 3) (i j : Fin 1024) :
    (W19 m ρ c (Proc.devRef .tc main_v11) : FVec Ideal S4x3x1024x1024 .f32) (ix4 2 a i j) = (args m c).a9 j i a := by
  unfold W19 W18 W17 W16 W15 W14 W13 W12 W11 W10 W9 W8 W7 W6 W5 W4 W3 W2 W1
  after_reads_at
  after_reads_at
  rfl

theorem b_at2 (c : Dev nD) (j : Fin 1024) :
    (W19 m ρ c (Proc.devRef .tc main_v17) : FVec Ideal S4x1x1024 .f32) (ix3 2 0 j) = (args m c).a10 j := by
  unfold W19 W18 W17 W16 W15 W14 W13 W12 W11 W10 W9 W8 W7 W6 W5 W4 W3 W2 W1
  after_reads_at
  after_reads_at
  rfl

theorem h_at2 (c : Dev nD) (j : Fin 1024) :
    (W19 m ρ c (Proc.devRef .tc main_v34) : FVec Ideal S4x1024x32 .f32) (ix3 2 j 0) = (args m c).a11 j := by
  unfold W19 W18 W17 W16 W15 W14 W13 W12 W11 W10 W9 W8 W7 W6 W5 W4 W3 W2 W1
  after_reads_at
  after_reads_at
  rfl

theorem d_at2 (c : Dev nD) :
    (W19 m ρ c (Proc.devRef .tc main_v44) : FVec Ideal S4x1x32 .f32) (ix3 2 0 0) = (args m c).a12 := by
  unfold W19 W18 W17 W16 W15 W14 W13 W12 W11 W10 W9 W8 W7 W6 W5 W4 W3 W2 W1
  after_reads_at
  after_reads_at
  rfl

theorem w_at3 (c : Dev nD) (a : Fin 3) (i j : Fin 1024) :
    (W19 m ρ c (Proc.devRef .tc main_v11) : FVec Ideal S4x3x1024x1024 .f32) (ix4 3 a i j) = (args m c).a13 j i a := by
  unfold W19 W18 W17 W16 W15 W14 W13 W12 W11 W10 W9 W8 W7 W6 W5 W4 W3 W2 W1
  after_reads_at
  after_reads_at
  rfl

theorem b_at3 (c : Dev nD) (j : Fin 1024) :
    (W19 m ρ c (Proc.devRef .tc main_v17) : FVec Ideal S4x1x1024 .f32) (ix3 3 0 j) = (args m c).a14 j := by
  unfold W19 W18 W17 W16 W15 W14 W13 W12 W11 W10 W9 W8 W7 W6 W5 W4 W3 W2 W1
  after_reads_at
  after_reads_at
  rfl

theorem h_at3 (c : Dev nD) (j : Fin 1024) :
    (W19 m ρ c (Proc.devRef .tc main_v34) : FVec Ideal S4x1024x32 .f32) (ix3 3 j 0) = (args m c).a15 j := by
  unfold W19 W18 W17 W16 W15 W14 W13 W12 W11 W10 W9 W8 W7 W6 W5 W4 W3 W2 W1
  after_reads_at
  after_reads_at
  rfl

theorem d_at3 (c : Dev nD) :
    (W19 m ρ c (Proc.devRef .tc main_v44) : FVec Ideal S4x1x32 .f32) (ix3 3 0 0) = (args m c).a16 := by
  unfold W19 W18 W17 W16 W15 W14 W13 W12 W11 W10 W9 W8 W7 W6 W5 W4 W3 W2 W1
  after_reads_at
  after_reads_at
  rfl

end Cert.KernelIdeal.Whole
end
-- ==== Proof.Enc.lean ====
/-
  Region 0 (the four encoders): what its result array holds, at an index, as a function of the padded sequences, the taps,
  the biases and the second layer's weights it finds.
-/
module

public import proofs.«01_k».proof.Proof.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

variable (V : (c : Dev nD) → (b : Ref sig .tc) → Buf (Elt Ideal) ((c : Thread nD τ).loc b))

theorem idx0 : ∀ t : Fin cfg0.N, win0_0.index t = ![(grid0.coords t 1).val, (grid0.coords t 0).val % 2, 0, 0]
    ∧ win0_1.index t = ![(grid0.coords t 0).val, 0, 0, 0] ∧ win0_2.index t = ![(grid0.coords t 0).val, 0, 0]
    ∧ win0_3.index t = ![(grid0.coords t 0).val, 0, 0] ∧ win0_4.index t = ![(grid0.coords t 0).val, 0, 0]
    ∧ win0_5.index t = ![(grid0.coords t 0).val, (grid0.coords t 1).val, 0, 0] :=
  (by decide +kernel : ∀ t : Fin grid0.N, _)

/-- What the four encoders compute: a three-tap convolution over the padded time axis, a bias, a
    rectifier and a second linear layer; encoder `z 0` reads feature half `z 0 mod 2`. -/
def enc0 (x : FVec Ideal S4x2x514x1024 .f32) (w : FVec Ideal S4x3x1024x1024 .f32) (b : FVec Ideal S4x1x1024 .f32)
    (w2 : FVec Ideal S4x1024x32 .f32) (b2 : FVec Ideal S4x1x32 .f32) : FVec Ideal S4x4x512x32 .f32 := fun z =>
  (∑ j : Fin 1024, max
    ((∑ i : Fin 1024, x (ix4 (z 1) ⟨(z 0).val % 2, by omega⟩ ⟨(z 2).val, by have : (z 2).val < 512 := (z 2).2; omega⟩ i) * w (ix4 (z 0) 0 i j))
     + (∑ i : Fin 1024, x (ix4 (z 1) ⟨(z 0).val % 2, by omega⟩ ⟨1 + (z 2).val, by have : (z 2).val < 512 := (z 2).2; omega⟩ i) * w (ix4 (z 0) 1 i j))
     + (∑ i : Fin 1024, x (ix4 (z 1) ⟨(z 0).val % 2, by omega⟩ ⟨2 + (z 2).val, by have : (z 2).val < 512 := (z 2).2; omega⟩ i) * w (ix4 (z 0) 2 i j))
     + b (ix3 (z 0) 0 j)) 0 * w2 (ix3 (z 0) j (z 3))) + b2 (ix3 (z 0) 0 (z 3))

theorem b0_0 (c : Dev nD) (t : Fin cfg0.N) (a : Fin 514) (i : Fin 1024) : iblk0 V c 0 t (ix4 0 0 a i) =
    (V c main_v2 : FVec Ideal S4x2x514x1024 .f32) (ix4 (grid0.coords t 1) ⟨(grid0.coords t 0).val % 2, by omega⟩ a i) := by
  blk_ext [iblk0, idx0 t]

theorem b0_1 (c : Dev nD) (t : Fin cfg0.N) (a : Fin 3) (i j : Fin 1024) : iblk0 V c 1 t (ix4 0 a i j) =
    (V c main_v11 : FVec Ideal S4x3x1024x1024 .f32) (ix4 (grid0.coords t 0) a i j) := by
  blk_ext [iblk0, idx0 t]

theorem b0_2 (c : Dev nD) (t : Fin cfg0.N) (j : Fin 1024) : iblk0 V c 2 t (ix3 0 0 j) =
    (V c main_v17 : FVec Ideal S4x1x1024 .f32) (ix3 (grid0.coords t 0) 0 j) := by
  blk_ext [iblk0, idx0 t]

theorem b0_3 (c : Dev nD) (t : Fin cfg0.N) (j : Fin 1024) (k : Fin 32) : iblk0 V c 3 t (ix3 0 j k) =
    (V c main_v34 : FVec Ideal S4x1024x32 .f32) (ix3 (grid0.coords t 0) j k) := by
  blk_ext [iblk0, idx0 t]

theorem b0_4 (c : Dev nD) (t : Fin cfg0.N) (k : Fin 32) : iblk0 V c 4 t (ix3 0 0 k) =
    (V c main_v44 : FVec Ideal S4x1x32 .f32) (ix3 (grid0.coords t 0) 0 k) := by
  blk_ext [iblk0, idx0 t]

theorem e0_5 (t : Fin cfg0.N) (u : Fin 512) (v : Fin 32) : (win0_5.blk t).view.emb (ix4 0 0 u v)
    = (ix4 (grid0.coords t 0) (grid0.coords t 1) u v : S4x4x512x32.Idx) := by
  blk_ext [idx0 t]

theorem y0 (y : S1x1x512x32.Idx) : ∃ (u : Fin 512) (v : Fin 32), y = ix4 0 0 u v := ⟨y 2, y 3, by blk_ext []⟩

theorem point0 (c : Dev nD) (t : Fin cfg0.N) (u : Fin 512) (v : Fin 32) :
    out0_5 (iblk0 V c 0 t) (iblk0 V c 1 t) (iblk0 V c 2 t) (iblk0 V c 3 t) (iblk0 V c 4 t) (ix4 0 0 u v)
      = enc0 (V c main_v2) (V c main_v11) (V c main_v17) (V c main_v34) (V c main_v44)
        (ix4 (grid0.coords t 0) (grid0.coords t 1) u v) := by
  unfold out0_5
  frame_out
  pointwise [k0_pay1, k0_pay2]
  simp only [b0_0, b0_1, b0_2, b0_3, b0_4]
  rfl

theorem arr0 (c : Dev nD) : (dat0 V c).arrAt 5 cfg0.N = enc0 (V c main_v2) (V c main_v11) (V c main_v17) (V c main_v34) (V c main_v44) := by
  refine (dat0 V c).arrAt_eq_of_covers 5 _ (by decide +kernel) fun t _ y => ?_
  obtain ⟨u, v, rfl⟩ := y0 y
  blk_simp
  rw [after0_5]
  exact (point0 V c t u v).trans (congrArg (enc0 _ _ _ _ _) (e0_5 t u v).symm)

end Cert.KernelIdeal.Whole
end
-- ==== Proof.Combine.lean ====
/-
  Region 1 (softmax, logistic function, segment scores): what its three result arrays hold, at an index.
-/
module

public import proofs.«01_k».proof.Proof.Run
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

open Cert.Spec

variable (V : (c : Dev nD) → (b : Ref sig .tc) → Buf (Elt Ideal) ((c : Thread nD τ).loc b))

theorem idx1 : ∀ t : Fin cfg1.N, win1_0.index t = ![0, (grid1.coords t 0).val, 0, 0]
    ∧ win1_1.index t = ![(grid1.coords t 0).val, 0, 0] ∧ win1_2.index t = ![(grid1.coords t 0).val, 0, 0]
    ∧ win1_3.index t = ![(grid1.coords t 0).val, 0, 0] :=
  (by decide +kernel : ∀ t : Fin grid1.N, _)

/-- The class scores, the logistic function of the attention score, and the segment scores, lane by lane. -/
def cas1 (x : FVec Ideal S4x4x512x32 .f32) : FVec Ideal S4x512x32 .f32 := fun z =>
  if (z 2).val < 20 then x (ix4 0 (z 0) (z 1) (z 2)) + x (ix4 1 (z 0) (z 1) (z 2)) else 0
def att1 (x : FVec Ideal S4x4x512x32 .f32) : FVec Ideal S4x512x32 .f32 := fun z =>
  sigm (x (ix4 2 (z 0) (z 1) (z 2)) + x (ix4 3 (z 0) (z 1) (z 2)))
def seg1 (x : FVec Ideal S4x4x512x32 .f32) : FVec Ideal S4x512x32 .f32 := fun z =>
  if h : (z 2).val < 20 then
    Ideal.div (soft (fun k => x (ix4 0 (z 0) (z 1) ⟨k.val, by omega⟩) + x (ix4 1 (z 0) (z 1) ⟨k.val, by omega⟩)) ⟨(z 2).val, h⟩
      + sigm (x (ix4 2 (z 0) (z 1) 0) + x (ix4 3 (z 0) (z 1) 0))) 2
  else 0

theorem seg1_pos (x : FVec Ideal S4x4x512x32 .f32) (n : Fin 4) (u : Fin 512) (v : Fin 32) (h : v.val < 20) : seg1 x (ix3 n u v) =
    Ideal.div (soft (fun k => x (ix4 0 n u ⟨k.val, by omega⟩) + x (ix4 1 n u ⟨k.val, by omega⟩)) ⟨v.val, h⟩
      + sigm (x (ix4 2 n u 0) + x (ix4 3 n u 0))) 2 := by
  unfold seg1; exact dif_pos (c := (ix3 n u v 2).val < 20) h
theorem seg1_neg (x : FVec Ideal S4x4x512x32 .f32) (n : Fin 4) (u : Fin 512) (v : Fin 32) (h : ¬ v.val < 20) : seg1 x (ix3 n u v) = 0 := by
  unfold seg1; exact dif_neg (c := (ix3 n u v 2).val < 20) h

theorem b1_0 (c : Dev nD) (t : Fin cfg1.N) (e : Fin 4) (u : Fin 512) (v : Fin 32) : iblk1 V c 0 t (ix4 e 0 u v) =
    (V c main_v45 : FVec Ideal S4x4x512x32 .f32) (ix4 e (grid1.coords t 0) u v) := by
  blk_ext [iblk1, idx1 t]

theorem e1_1 (t : Fin cfg1.N) (u : Fin 512) (v : Fin 32) : (win1_1.blk t).view.emb (ix3 0 u v)
    = (ix3 (grid1.coords t 0) u v : S4x512x32.Idx) := by
  blk_ext [idx1 t]
theorem e1_2 (t : Fin cfg1.N) (u : Fin 512) (v : Fin 32) : (win1_2.blk t).view.emb (ix3 0 u v)
    = (ix3 (grid1.coords t 0) u v : S4x512x32.Idx) := by
  blk_ext [idx1 t]
theorem e1_3 (t : Fin cfg1.N) (u : Fin 512) (v : Fin 32) : (win1_3.blk t).view.emb (ix3 0 u v)
    = (ix3 (grid1.coords t 0) u v : S4x512x32.Idx) := by
  blk_ext [idx1 t]
theorem y1 (y : S1x512x32.Idx) : ∃ (u : Fin 512) (v : Fin 32), y = ix3 0 u v := ⟨y 1, y 2, by blk_ext []⟩

theorem point1_1 (c : Dev nD) (t : Fin cfg1.N) (u : Fin 512) (v : Fin 32) :
    out1_1 (iblk1 V c 0 t) (ix3 0 u v) = seg1 (V c main_v45) (ix3 (grid1.coords t 0) u v) := by
  unfold out1_1
  frame_out
  pointwise [k1_pay1, k1_pay2, k1_pay3, k1_pay4, k1_pay5, k1_pay6, k1_pay7, k1_pay8, k1_pay9]
  simp only [b1_0, bits_neg_inf, mul_half, zero_sub]
  have hl : ∀ x : Fin 32, IntOp.cmpi CmpIPredicate.slt (BitVec.ofNat 32 x.val) 20#32 = BitVec.ofBool (decide (x.val < 20)) :=
    fun x => lane_lt x.val 20 (by omega) (by omega)
  simp only [hl, select_dec]
  rw [fold_lanes _ fun x hx => if_neg (by omega), sum_lanes _ fun x hx => if_neg (by omega)]
  simp only [Fin.is_lt, if_true]
  by_cases h : v.val < 20
  · simp only [if_pos h]; exact (seg1_pos _ (grid1.coords t 0) u v h).symm
  · rw [if_neg h]; exact (seg1_neg _ (grid1.coords t 0) u v h).symm

theorem point1_2 (c : Dev nD) (t : Fin cfg1.N) (u : Fin 512) (v : Fin 32) :
    out1_2 (iblk1 V c 0 t) (ix3 0 u v) = cas1 (V c main_v45) (ix3 (grid1.coords t 0) u v) := by
  unfold out1_2
  frame_out
  pointwise [k1_pay1, k1_pay2, k1_pay3, k1_pay4, k1_pay5, k1_pay6, k1_pay7, k1_pay8, k1_pay9]
  simp only [b1_0]
  rw [show IntOp.cmpi CmpIPredicate.slt (BitVec.ofNat 32 v.val) 20#32 = BitVec.ofBool (decide (v.val < 20)) from
    lane_lt v.val 20 (by omega) (by omega), select_dec]
  rfl

theorem point1_3 (c : Dev nD) (t : Fin cfg1.N) (u : Fin 512) (v : Fin 32) :
    out1_3 (iblk1 V c 0 t) (ix3 0 u v) = att1 (V c main_v45) (ix3 (grid1.coords t 0) u v) := by
  unfold out1_3
  frame_out
  pointwise [k1_pay1, k1_pay2, k1_pay3, k1_pay4, k1_pay5, k1_pay6, k1_pay7, k1_pay8, k1_pay9]
  simp only [b1_0, zero_sub]
  rfl

theorem arr1_1 (c : Dev nD) : (dat1 V c).arrAt 1 cfg1.N = seg1 (V c main_v45) := by
  refine (dat1 V c).arrAt_eq_of_covers 1 _ (by decide +kernel) fun t _ y => ?_
  obtain ⟨u, v, rfl⟩ := y1 y
  blk_simp
  rw [after1_1]
  exact (point1_1 V c t u v).trans (congrArg (seg1 _) (e1_1 t u v).symm)
theorem arr1_2 (c : Dev nD) : (dat1 V c).arrAt 2 cfg1.N = cas1 (V c main_v45) := by
  refine (dat1 V c).arrAt_eq_of_covers 2 _ (by decide +kernel) fun t _ y => ?_
  obtain ⟨u, v, rfl⟩ := y1 y
  blk_simp
  rw [after1_2]
  exact (point1_2 V c t u v).trans (congrArg (cas1 _) (e1_2 t u v).symm)
theorem arr1_3 (c : Dev nD) : (dat1 V c).arrAt 3 cfg1.N = att1 (V c main_v45) := by
  refine (dat1 V c).arrAt_eq_of_covers 3 _ (by decide +kernel) fun t _ y => ?_
  obtain ⟨u, v, rfl⟩ := y1 y
  blk_simp
  rw [after1_3]
  exact (point1_3 V c t u v).trans (congrArg (att1 _) (e1_3 t u v).symm)

end Cert.KernelIdeal.Whole
end
-- ==== Proof.Rank.lean ====
/-
  Regions 2 and 4 (the rank of every score with the scores in order, and the mask brought back into time order): what
  their result arrays hold, at an index.
-/
module

public import proofs.«01_k».proof.Proof.Run
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

open Cert.Spec

variable (V : (c : Dev nD) → (b : Ref sig .tc) → Buf (Elt Ideal) ((c : Thread nD τ).loc b))

theorem idx2 : ∀ t : Fin cfg2.N, win2_0.index t = ![(grid2.coords t 0).val, 0, 0]
    ∧ win2_1.index t = ![(grid2.coords t 0).val, 0, 0] ∧ win2_2.index t = ![(grid2.coords t 0).val, 0, 0]
    ∧ win2_3.index t = ![(grid2.coords t 0).val, 0, 0] :=
  (by decide +kernel : ∀ t : Fin grid2.N, _)

theorem idx4 : ∀ t : Fin cfg4.N, win4_0.index t = ![(grid4.coords t 0).val, 0, 0]
    ∧ win4_1.index t = ![(grid4.coords t 0).val, 0, 0] ∧ win4_2.index t = ![(grid4.coords t 0).val, 0, 0] :=
  (by decide +kernel : ∀ t : Fin grid4.N, _)

/-- The two comparisons of a pair of steps, as the region prints them. -/
theorem beats (s : Fin 512 → EReal) (v u : Fin 512) :
    FloatOps.sitofp (F := Ideal) FTy.f32 (BitVec.setWidth 32 (IntOp.ori (BitVec.ofBool (decide (s u < s v)))
      (IntOp.andi (BitVec.ofBool (decide (s v = s u))) (IntOp.cmpi CmpIPredicate.slt (BitVec.ofNat 32 v.val) (BitVec.ofNat 32 u.val)))))
      = (if before s v u then 1 else 0 : EReal) := by
  rw [lane_lt v.val u.val (by omega) (by omega)]
  have : IntOp.ori (BitVec.ofBool (decide (s u < s v))) (IntOp.andi (BitVec.ofBool (decide (s v = s u))) (BitVec.ofBool (decide (v.val < u.val))))
      = BitVec.ofBool (decide (before s v u)) := by
    have hb : before s v u ↔ (s u < s v ∨ (s v = s u ∧ v.val < u.val)) := Iff.rfl
    by_cases h1 : s u < s v <;> by_cases h2 : s v = s u <;> by_cases h3 : v.val < u.val <;>
      simp [IntOp.ori, IntOp.andi, hb, h1, h2, h3]
  rw [this, sitofp_bool]

theorem sum_before (s : Fin 512 → EReal) (u : Fin 512) : (∑ v, if before s v u then 1 else 0 : EReal) = (rank s u : EReal) := by
  rw [Finset.sum_boole]; rfl

theorem sum_after (s : Fin 512 → EReal) (u : Fin 512) :
    Ideal.ofBits .f32 1140817920#32 - (∑ v, if before s u v then 1 else 0 : EReal) = (rank s u : EReal) := by
  rw [Finset.sum_boole, bits_511]
  have h := rank_after s u
  have e : ∀ n : ℕ, (n : EReal) = ((n : ℝ) : EReal) := fun n => by norm_cast
  rw [e, e, ← EReal.coe_sub]
  congr 1
  have : ((Finset.univ.filter (before s u ·)).card : ℝ) + rank s u = 511 := by exact_mod_cast h
  linarith

theorem nat_inj {a b : ℕ} : ((a : EReal) = (b : EReal)) ↔ a = b := by norm_cast

/-- The sum over all steps that keeps the step of rank `i` is the `i`-th score in order. -/
theorem pick_srt (s : Fin 512 → EReal) (i : Fin 512) :
    (∑ x, (if (rank s x : EReal) = (i.val : EReal) then 1 else 0) * s x : EReal) = srt s i := by
  rw [Finset.sum_eq_single ((rk s).symm i)]
  · have : rank s ((rk s).symm i) = i.val := by rw [← rk_val, Equiv.apply_symm_apply]
    rw [if_pos (by rw [this]), one_mul]; rfl
  · intro x _ hx
    rw [if_neg, zero_mul]
    rw [nat_inj]
    intro h
    exact hx ((Equiv.eq_symm_apply _).2 (Fin.ext h))
  · exact fun h => absurd (Finset.mem_univ _) h

/-- The sum over all places that keeps place `i` is what the place holds. -/
theorem pick_at (q : Fin 512 → EReal) (i : Fin 512) :
    (∑ x : Fin 512, (if (i.val : EReal) = (x.val : EReal) then 1 else 0) * q x : EReal) = q i := by
  rw [Finset.sum_eq_single i]
  · rw [if_pos rfl, one_mul]
  · intro x _ hx
    rw [if_neg, zero_mul]
    rw [nat_inj]
    exact fun h => hx (Fin.ext h.symm)
  · exact fun h => absurd (Finset.mem_univ _) h

/-- The scores in order, the ranks, and the mask over time, as the regions' result arrays. -/
def srtArr (s : Fin 80 → Fin 512 → EReal) : FVec Ideal S80x512x1 .f32 := fun z => srt (s (z 0)) (z 1)
def rankE (s : Fin 512 → EReal) (u : Fin 512) : EReal := (rank s u : EReal)
theorem rankE_eq (s : Fin 512 → EReal) (u : Fin 512) : rankE s u = ((rk s u).val : EReal) := rfl
attribute [irreducible] rankE
def rankArr (s : Fin 80 → Fin 512 → EReal) : FVec Ideal S80x512x1 .f32 := fun z => rankE (s (z 0)) (z 1)
def unsortArr (k : Fin 80 → Equiv.Perm (Fin 512)) (q : Fin 80 → Fin 512 → EReal) : FVec Ideal S80x512x1 .f32 :=
  fun z => q (z 0) (k (z 0) (z 1))

theorem b2_0 (c : Dev nD) (t : Fin cfg2.N) (u : Fin 512) : iblk2 V c 0 t (ix3 0 0 u) =
    (V c main_v50 : FVec Ideal S80x1x512 .f32) (ix3 (grid2.coords t 0) 0 u) := by
  blk_ext [iblk2, idx2 t]
theorem b2_1 (c : Dev nD) (t : Fin cfg2.N) (u : Fin 512) : iblk2 V c 1 t (ix3 0 u 0) =
    (V c main_v51 : FVec Ideal S80x512x1 .f32) (ix3 (grid2.coords t 0) u 0) := by
  blk_ext [iblk2, idx2 t]
theorem e2_2 (t : Fin cfg2.N) (u : Fin 512) : (win2_2.blk t).view.emb (ix3 0 u 0)
    = (ix3 (grid2.coords t 0) u 0 : S80x512x1.Idx) := by
  blk_ext [idx2 t]
theorem e2_3 (t : Fin cfg2.N) (u : Fin 512) : (win2_3.blk t).view.emb (ix3 0 u 0)
    = (ix3 (grid2.coords t 0) u 0 : S80x512x1.Idx) := by
  blk_ext [idx2 t]
theorem y2 (y : S1x512x1.Idx) : ∃ u : Fin 512, y = ix3 0 u 0 := ⟨y 1, by blk_ext []⟩

theorem point2_2 (x0 : Vec Ideal S1x1x512 .f32) (x1 : Vec Ideal S1x512x1 .f32) (s : Fin 512 → EReal)
    (h0 : ∀ u, x0 (ix3 0 0 u) = s u) (h1 : ∀ u, x1 (ix3 0 u 0) = s u) (u : Fin 512) : out2_2 x0 x1 (ix3 0 u 0) = srt s u := by
  unfold out2_2
  frame_out
  pointwise [k2_pay1, k2_pay2, k2_pay3, k2_pay4]
  simp only [h0, h1, beats, sum_before, sitofp_bool, sitofp_nat (show u.val < 1024 by omega)]
  exact pick_srt s u

theorem point2_3 (x0 : Vec Ideal S1x1x512 .f32) (x1 : Vec Ideal S1x512x1 .f32) (s : Fin 512 → EReal)
    (h0 : ∀ u, x0 (ix3 0 0 u) = s u) (h1 : ∀ u, x1 (ix3 0 u 0) = s u) (u : Fin 512) : out2_3 x0 x1 (ix3 0 u 0) = rankE s u := by
  unfold out2_3
  frame_out
  pointwise [k2_pay1, k2_pay2, k2_pay3, k2_pay4]
  simp only [h0, h1, beats]
  exact (sum_after s u).trans (rankE_eq s u).symm

/-- The rows of the region's input, and what it stores of each. -/
theorem arr2_2 (c : Dev nD) (s : Fin 80 → Fin 512 → EReal)
    (h0 : ∀ r u, (V c main_v50 : FVec Ideal S80x1x512 .f32) (ix3 r 0 u) = s r u)
    (h1 : ∀ r u, (V c main_v51 : FVec Ideal S80x512x1 .f32) (ix3 r u 0) = s r u) :
    (dat2 V c).arrAt 2 cfg2.N = srtArr s := by
  refine (dat2 V c).arrAt_eq_of_covers 2 _ (by decide +kernel) fun t _ y => ?_
  obtain ⟨u, rfl⟩ := y2 y
  blk_simp
  rw [after2_2]
  exact (point2_2 _ _ (s (grid2.coords t 0)) (fun u => (b2_0 V c t u).trans (h0 _ _)) (fun u => (b2_1 V c t u).trans (h1 _ _)) u).trans
    (congrArg (srtArr s) (e2_2 t u).symm)
theorem arr2_3 (c : Dev nD) (s : Fin 80 → Fin 512 → EReal)
    (h0 : ∀ r u, (V c main_v50 : FVec Ideal S80x1x512 .f32) (ix3 r 0 u) = s r u)
    (h1 : ∀ r u, (V c main_v51 : FVec Ideal S80x512x1 .f32) (ix3 r u 0) = s r u) :
    (dat2 V c).arrAt 3 cfg2.N = rankArr s := by
  refine (dat2 V c).arrAt_eq_of_covers 3 _ (by decide +kernel) fun t _ y => ?_
  obtain ⟨u, rfl⟩ := y2 y
  blk_simp
  rw [after2_3]
  exact (point2_3 _ _ (s (grid2.coords t 0)) (fun u => (b2_0 V c t u).trans (h0 _ _)) (fun u => (b2_1 V c t u).trans (h1 _ _)) u).trans
    (congrArg (rankArr s) (e2_3 t u).symm)

theorem b4_0 (c : Dev nD) (t : Fin cfg4.N) (u : Fin 512) : iblk4 V c 0 t (ix3 0 u 0) =
    (V c main_v52_1 : FVec Ideal S80x512x1 .f32) (ix3 (grid4.coords t 0) u 0) := by
  blk_ext [iblk4, idx4 t]
theorem b4_1 (c : Dev nD) (t : Fin cfg4.N) (u : Fin 512) : iblk4 V c 1 t (ix3 0 0 u) =
    (V c main_v57 : FVec Ideal S80x1x512 .f32) (ix3 (grid4.coords t 0) 0 u) := by
  blk_ext [iblk4, idx4 t]
theorem e4_2 (t : Fin cfg4.N) (u : Fin 512) : (win4_2.blk t).view.emb (ix3 0 u 0)
    = (ix3 (grid4.coords t 0) u 0 : S80x512x1.Idx) := by
  blk_ext [idx4 t]

theorem point4_2 (x0 : Vec Ideal S1x512x1 .f32) (x1 : Vec Ideal S1x1x512 .f32) (k : Equiv.Perm (Fin 512)) (q : Fin 512 → EReal)
    (h0 : ∀ u, x0 (ix3 0 u 0) = ((k u).val : EReal)) (h1 : ∀ u, x1 (ix3 0 0 u) = q u) (u : Fin 512) :
    out4_2 x0 x1 (ix3 0 u 0) = q (k u) := by
  unfold out4_2
  frame_out
  pointwise [k4_pay1]
  simp only [h0, h1, sitofp_bool, fun x : Fin 512 => sitofp_nat (show x.val < 1024 by omega)]
  exact pick_at q (k u)

theorem arr4_2 (c : Dev nD) (k : Fin 80 → Equiv.Perm (Fin 512)) (q : Fin 80 → Fin 512 → EReal)
    (h0 : ∀ r u, (V c main_v52_1 : FVec Ideal S80x512x1 .f32) (ix3 r u 0) = ((k r u).val : EReal))
    (h1 : ∀ r u, (V c main_v57 : FVec Ideal S80x1x512 .f32) (ix3 r 0 u) = q r u) :
    (dat4 V c).arrAt 2 cfg4.N = unsortArr k q := by
  refine (dat4 V c).arrAt_eq_of_covers 2 _ (by decide +kernel) fun t _ y => ?_
  obtain ⟨u, rfl⟩ := y2 y
  blk_simp
  rw [after4_2]
  exact (point4_2 _ _ (k (grid4.coords t 0)) (q (grid4.coords t 0)) (fun u => (b4_0 V c t u).trans (h0 _ _)) (fun u => (b4_1 V c t u).trans (h1 _ _)) u).trans
    (congrArg (unsortArr k q) (e4_2 t u).symm)

end Cert.KernelIdeal.Whole
end
-- ==== Proof.ClusterVal.lean ====
/-
  Region 3 (the clustering of the sorted scores): what its result array holds, at an index. The carried values of trip `k`
  are the sums and counts of the row by itself, and the rows stored are its mask in order.
-/
module

public import proofs.«01_k».proof.Proof.Run
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

open Cert.Spec

variable (V : (c : Dev nD) → (b : Ref sig .tc) → Buf (Elt Ideal) ((c : Thread nD τ).loc b))

theorem idx3 : ∀ t : Fin cfg3.N, win3_0.index t = ![0, 0] := by decide +kernel

theorem trip_word : ∀ k : Fin 510, (Scalar.addi (Scf.iv 1#32 1#32 k.val) 1#32).toInt = (k.val : ℤ) + 2 := by decide +kernel

theorem trip_num (k : Fin k3_t1_loop.trips) :
    ((((Scalar.addi (Scf.iv 1#32 1#32 k.val) 1#32).toInt : ℤ) : ℝ) : EReal) = ((k.val + 2 : ℕ) : EReal) := by
  have hk : k.val < 510 := k.isLt.trans_eq (by decide)
  rw [trip_word ⟨k.val, hk⟩]
  push_cast
  norm_cast

theorem one_sub_one : (1 : EReal) - 1 = 0 := by
  rw [← EReal.coe_one, ← EReal.coe_sub, sub_self, EReal.coe_zero]

theorem num_ne (n : ℕ) : ((n + 2 : ℕ) : EReal) ≠ 0 := by
  have : (n + 2 : ℕ) ≠ 0 := by omega
  exact_mod_cast this

/-- The row of trip `k` sits at row `k + 1`. -/
theorem rRow_emb (k : Fin k3_t1_loop.trips) (hk : k.val + 1 < 512) (r : Fin 80) : (rRow k).emb (ix2 0 r) = (ix2 ⟨k.val + 1, hk⟩ r : S512x80.Idx) := by
  funext a
  apply Fin.ext
  rw [Rect.emb_apply]
  simp only [rRow, Rect.unit]
  fin_cases a <;> simp [k3_off1_eq]

theorem ld_row (x0 : Vec Ideal S512x80 .f32) (k : Fin k3_t1_loop.trips) (hk : k.val + 1 < 512) (r : Fin 80) :
    View.ld x0 (rRow k) (ix2 0 r) = x0 (ix2 ⟨k.val + 1, hk⟩ r) := congrArg x0 (rRow_emb k hk r)

theorem first_emb (r : Fin 80) : r3_1.emb (ix2 0 r) = (ix2 0 r : S512x80.Idx) := by
  funext a
  apply Fin.ext
  rw [Rect.emb_apply]
  simp only [r3_1, Rect.unit]
  fin_cases a <;> simp

theorem last_emb (r : Fin 80) : r3_2.emb (ix2 0 r) = (ix2 511 r : S512x80.Idx) := by
  funext a
  apply Fin.ext
  rw [Rect.emb_apply]
  simp only [r3_2, Rect.unit]
  fin_cases a <;> simp

theorem ld_first (x0 : Vec Ideal S512x80 .f32) (r : Fin 80) : View.ld x0 r3_1 (ix2 0 r) = x0 (ix2 0 r) := congrArg x0 (first_emb r)
theorem ld_last (x0 : Vec Ideal S512x80 .f32) (r : Fin 80) : View.ld x0 r3_2 (ix2 0 r) = x0 (ix2 511 r) := congrArg x0 (last_emb r)

/-- Four running values, at lane `r`. -/
def lane (a : Car Ideal) (r : Fin 80) : Cert.Spec.Car := ⟨a.1 (ix2 0 r), a.2.1 (ix2 0 r), a.2.2.1 (ix2 0 r), a.2.2.2 (ix2 0 r)⟩

theorem cond_lane (a : Car Ideal) (v : Vec Ideal S1x80 .f32) (r : Fin 80) :
    k3_pay8 a.1 a.2.1 a.2.2.1 a.2.2.2 v (ix2 0 r) = if near (v (ix2 0 r)) (lane a r) then 1 else 0 := by
  pointwise [k3_pay8, k3_pay7]
  rw [sitofp_bool]
  rfl

theorem carStep_lane (x0 : Vec Ideal S512x80 .f32) (k : Fin k3_t1_loop.trips) (hk : k.val + 1 < 512) (a : Car Ideal) (r : Fin 80) :
    lane (carStep x0 k a) r = step ((k.val + 2 : ℕ) : EReal) (x0 (ix2 ⟨k.val + 1, hk⟩ r)) (lane a r) := by
  have hz : Ideal.div 0 ((k.val + 2 : ℕ) : EReal) = 0 := Ideal.zero_div (num_ne _)
  unfold carStep
  generalize hv : View.ld x0 (rRow k) = v
  have hx : x0 (ix2 ⟨k.val + 1, hk⟩ r) = v (ix2 0 r) := by rw [← hv, ld_row x0 k hk r]
  rw [hx]
  obtain ⟨a1, a2, a3, a4⟩ := a
  have e1 : k3_pay10 k a1 a2 a3 a4 v (ix2 0 r) = a1 (ix2 0 r) + Ideal.div ((if near (v (ix2 0 r)) (lane (a1, a2, a3, a4) r) then 1 else 0) * v (ix2 0 r)) ((k.val + 2 : ℕ) : EReal) := by
    pointwise [k3_pay10, k3_pay9, k3_pay8, k3_pay7]
    rw [sitofp_bool, trip_num]; rfl
  have e2 : k3_pay11 k a1 a2 a3 a4 v (ix2 0 r) = a2 (ix2 0 r) + Ideal.div (if near (v (ix2 0 r)) (lane (a1, a2, a3, a4) r) then 1 else 0) ((k.val + 2 : ℕ) : EReal) := by
    pointwise [k3_pay11, k3_pay9, k3_pay8, k3_pay7]
    rw [sitofp_bool, trip_num]; rfl
  have e3 : k3_pay12 a1 a2 a3 a4 v (ix2 0 r) = a3 (ix2 0 r) + (1 - (if near (v (ix2 0 r)) (lane (a1, a2, a3, a4) r) then 1 else 0)) * v (ix2 0 r) := by
    pointwise [k3_pay12, k3_pay9, k3_pay8, k3_pay7]
    rw [sitofp_bool]; rfl
  have e4 : k3_pay13 a1 a2 a3 a4 v (ix2 0 r) = a4 (ix2 0 r) + (1 - (if near (v (ix2 0 r)) (lane (a1, a2, a3, a4) r) then 1 else 0)) := by
    pointwise [k3_pay13, k3_pay9, k3_pay8, k3_pay7]
    rw [sitofp_bool]; rfl
  show Car.mk (k3_pay10 k a1 a2 a3 a4 v (ix2 0 r)) (k3_pay11 k a1 a2 a3 a4 v (ix2 0 r)) (k3_pay12 a1 a2 a3 a4 v (ix2 0 r)) (k3_pay13 a1 a2 a3 a4 v (ix2 0 r)) = _
  rw [e1, e2, e3, e4]
  unfold step
  by_cases h : near (v (ix2 0 r)) (lane (a1, a2, a3, a4) r)
  · simp only [if_pos h, one_mul, one_sub_one, zero_mul, add_zero]; rfl
  · simp only [if_neg h, zero_mul, hz, sub_zero, one_mul, add_zero]; rfl

/-- The carried values before trip `k`, at lane `r`. -/
theorem car_lane (x0 : Vec Ideal S512x80 .f32) (r : Fin 80) : ∀ k, k ≤ 510 → lane (car x0 k) r = carry (fun i => x0 (ix2 i r)) k
  | 0, _ => by
    rw [car.eq_1, carry.eq_1]
    unfold car0 lane
    have e1 : k3_pay1 (View.ld x0 r3_1) (ix2 0 r) = x0 (ix2 0 r) := by
      rw [← ld_first x0 r]; pointwise [k3_pay1]
    have e2 : k3_pay2 (View.ld x0 r3_2) (ix2 0 r) = x0 (ix2 511 r) := by
      rw [← ld_last x0 r]; pointwise [k3_pay2]
    have e3 : k3_pay5 (F := Ideal) (ix2 0 r) = 1 := by pointwise [k3_pay5]; first | done | rfl
    have e4 : k3_pay6 (F := Ideal) (ix2 0 r) = 1 := by pointwise [k3_pay6]
    show Cert.Spec.Car.mk (k3_pay1 (View.ld x0 r3_1) (ix2 0 r)) (k3_pay5 (F := Ideal) (ix2 0 r)) (k3_pay2 (View.ld x0 r3_2) (ix2 0 r)) (k3_pay6 (F := Ideal) (ix2 0 r)) = _
    rw [e1, e2, e3, e4]
  | k + 1, h => by
    have ht : k3_t1_loop.trips = 510 := by decide
    rw [car.eq_2, carry.eq_2, dif_pos (by omega), dif_pos (by omega), carStep_lane x0 ⟨k, by omega⟩ (by show k + 1 < 512; omega),
      car_lane x0 r k (by omega)]

theorem pcs_mem (x0 : Vec Ideal S512x80 .f32) : ∀ k, ∀ p ∈ pcs x0 k, ∃ j, p = ⟨rRow j, condRow x0 j⟩
  | 0, p, h => by rw [pcs.eq_1] at h; simp at h
  | k + 1, p, h => by
    rw [pcs.eq_2] at h
    split at h
    · rcases List.mem_cons.1 h with h | h
      · exact ⟨_, h⟩
      · exact pcs_mem x0 k p h
    · exact pcs_mem x0 k p h

/-- The rows' masks in order, side by side. -/
def mskArr (x0 : Vec Ideal S512x80 .f32) : Vec Ideal S512x80 .f32 := fun z => msk (fun i => x0 (ix2 i (z 1))) (z 0)

theorem y3 (y : S1x80.Idx) : ∃ r : Fin 80, y = ix2 0 r := ⟨y 1, by blk_ext []⟩

theorem mask3_eq (x0 : Vec Ideal S512x80 .f32) : mask3 x0 = mskArr x0 := by
  funext y
  unfold mask3
  refine View.canon_apply_of_pieces (mskArr x0) _ (fun p hp x => ?_) y (cover3 _ _ _ y)
  rcases List.mem_append.1 hp with hp | hp
  · obtain ⟨j, rfl⟩ := pcs_mem x0 _ p hp
    obtain ⟨r, rfl⟩ := y3 x
    have hj : j.val < 510 := j.isLt.trans_eq (by decide)
    show condRow x0 j (ix2 0 r) = mskArr x0 ((rRow j).emb (ix2 0 r))
    rw [rRow_emb j (by omega) r]
    unfold condRow
    rw [cond_lane, ld_row x0 j (by omega) r, car_lane x0 r j.val (by omega)]
    show _ = msk (fun i => x0 (ix2 i r)) ⟨j.val + 1, _⟩
    unfold msk
    rw [if_neg (show ¬ j.val + 1 = 0 by omega), if_neg (show ¬ j.val + 1 = 511 by omega)]
    rfl
  · simp only [List.mem_cons, List.not_mem_nil, or_false] at hp
    rcases hp with rfl | rfl
    · obtain ⟨r, rfl⟩ := y3 x
      show k3_pay4 (F := Ideal) (ix2 0 r) = mskArr x0 (r3_2.emb (ix2 0 r))
      rw [last_emb]
      have e3 : k3_pay4 (F := Ideal) (ix2 0 r) = 0 := by pointwise [k3_pay4]
      rw [e3]
      show _ = msk (fun i => x0 (ix2 i r)) 511
      unfold msk
      rw [if_neg (by decide), if_pos (by decide)]
    · obtain ⟨r, rfl⟩ := y3 x
      show k3_pay3 (F := Ideal) (ix2 0 r) = mskArr x0 (r3_1.emb (ix2 0 r))
      rw [first_emb]
      have e3 : k3_pay3 (F := Ideal) (ix2 0 r) = 1 := by pointwise [k3_pay3]
      rw [e3]
      show _ = msk (fun i => x0 (ix2 i r)) 0
      unfold msk
      rw [if_pos (by decide)]

theorem refine_at (x0 : Vec Ideal S512x80 .f32) (i : Fin 512) (r : Fin 80) :
    k3_pay14 (mskArr x0) x0 (ix2 i r) = refined (fun i => x0 (ix2 i r)) i := by
  pointwise [k3_pay14]
  rfl

def refE (x0 : Vec Ideal S512x80 .f32) (i : Fin 512) (r : Fin 80) : EReal := refined (fun i => x0 (ix2 i r)) i
theorem refE_eq (x0 : Vec Ideal S512x80 .f32) (i : Fin 512) (r : Fin 80) : refE x0 i r = refined (fun i => x0 (ix2 i r)) i := rfl
attribute [irreducible] refE

/-- The refined masks, side by side. -/
def refArr (x0 : Vec Ideal S512x80 .f32) : Vec Ideal S512x80 .f32 := fun z => refE x0 (z 0) (z 1)

theorem out3_1_eq (x0 : Vec Ideal S512x80 .f32) : out3_1 x0 = refArr x0 := by
  funext y
  obtain ⟨i, r, rfl⟩ : ∃ (i : Fin 512) (r : Fin 80), y = ix2 i r := ⟨y 0, y 1, by blk_ext []⟩
  unfold out3_1
  rw [mask3_eq]
  frame_out
  exact (refine_at x0 i r).trans (refE_eq x0 i r).symm

theorem b3 (c : Dev nD) : (iblk3 V c 0 t3_0 : FVec Ideal S512x80 .f32) = (V c main_v54 : FVec Ideal S512x80 .f32) := by
  funext y
  obtain ⟨i, r, rfl⟩ : ∃ (i : Fin 512) (r : Fin 80), y = ix2 i r := ⟨y 0, y 1, by blk_ext []⟩
  blk_ext [iblk3, idx3 t3_0]

/-- Region 3's output: the refined mask of every lane's sorted scores. -/
theorem arr3_1 (c : Dev nD) : (dat3 V c).arrAt 1 cfg3.N = refArr (V c main_v54) := by
  refine (dat3 V c).arrAt_eq_of_after_last 1 t3_0 (by decide +kernel) _ fun j => ?_
  blk_simp
  rw [after3_1, out3_1_eq]
  rw [show iblk3 V c 0 t3_0 = V c main_v54 from b3 V c]

end Cert.KernelIdeal.Whole
end
-- ==== Proof.Pool.lean ====
/-
  Region 5 (the two video scores): what its result arrays hold, at an index.
-/
module

public import proofs.«01_k».proof.Proof.Run
public import proofs.«01_k».proof.Proof.Spec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

open Cert.Spec

variable (V : (c : Dev nD) → (b : Ref sig .tc) → Buf (Elt Ideal) ((c : Thread nD τ).loc b))

theorem idx5 : ∀ t : Fin cfg5.N, win5_0.index t = ![(grid5.coords t 0).val, 0, 0]
    ∧ win5_1.index t = ![(grid5.coords t 0).val, 0, 0] ∧ win5_2.index t = ![(grid5.coords t 0).val, 0, 0]
    ∧ win5_3.index t = ![(grid5.coords t 0).val, 0, 0] :=
  (by decide +kernel : ∀ t : Fin grid5.N, _)

theorem b5_0 (c : Dev nD) (t : Fin cfg5.N) (u : Fin 512) (k : Fin 32) : iblk5 V c 0 t (ix3 0 u k) =
    (V c main_v46_1 : FVec Ideal S4x512x32 .f32) (ix3 (grid5.coords t 0) u k) := by
  blk_ext [iblk5, idx5 t]
theorem b5_1 (c : Dev nD) (t : Fin cfg5.N) (u : Fin 512) (k : Fin 20) : iblk5 V c 1 t (ix3 0 u k) =
    (V c main_v60 : FVec Ideal S4x512x20 .f32) (ix3 (grid5.coords t 0) u k) := by
  blk_ext [iblk5, idx5 t]
theorem e5_2 (t : Fin cfg5.N) (k : Fin 20) : (win5_2.blk t).view.emb (ix3 0 0 k) = (ix3 (grid5.coords t 0) 0 k : S4x1x20.Idx) := by
  blk_ext [idx5 t]
theorem e5_3 (t : Fin cfg5.N) (k : Fin 20) : (win5_3.blk t).view.emb (ix3 0 0 k) = (ix3 (grid5.coords t 0) 0 k : S4x1x20.Idx) := by
  blk_ext [idx5 t]
theorem y5 (y : S1x1x20.Idx) : ∃ k : Fin 20, y = ix3 0 0 k := ⟨y 2, by blk_ext []⟩

/-- A softmax over the classes of the scores averaged over time with weights `g`, as a result array. -/
def pool (f g : Fin 4 → Fin 512 → Fin 20 → EReal) (n : Fin 4) : Fin 20 → EReal :=
  soft fun k => Ideal.div (∑ t, f n t k * g n t k) (cnt (∑ t, g n t k))
def poolArr (f g : Fin 4 → Fin 512 → Fin 20 → EReal) : FVec Ideal S4x1x20 .f32 := fun z => pool f g (z 0) (z 2)

theorem point5_2 (x0 : Vec Ideal S1x512x32 .f32) (x1 : Vec Ideal S1x512x20 .f32) (f g : Fin 4 → Fin 512 → Fin 20 → EReal) (n : Fin 4)
    (h0 : ∀ u (k : Fin 20), x0 (ix3 0 u ⟨k.val, by omega⟩) = f n u k) (h1 : ∀ u k, x1 (ix3 0 u k) = g n u k) (k : Fin 20) :
    out5_2 x0 x1 (ix3 0 0 k) = pool f g n k := by
  unfold out5_2
  frame_out
  pointwise [k5_pay1, k5_pay2, k5_pay3, k5_pay4, k5_pay5, k5_pay6, k5_pay7, k5_pay8]
  have hl : ∀ x : Fin 20, IntOp.cmpi CmpIPredicate.slt (BitVec.ofNat 32 x.val) 20#32 = BitVec.ofBool (decide (x.val < 20)) :=
    fun x => lane_lt x.val 20 (by omega) (by omega)
  simp only [h0, h1, hl, select_dec, bits_neg_inf, Fin.is_lt, if_true]
  rfl

theorem point5_3 (x0 : Vec Ideal S1x512x32 .f32) (x1 : Vec Ideal S1x512x20 .f32) (f g : Fin 4 → Fin 512 → Fin 20 → EReal) (n : Fin 4)
    (h0 : ∀ u (k : Fin 20), x0 (ix3 0 u ⟨k.val, by omega⟩) = f n u k) (h1 : ∀ u k, x1 (ix3 0 u k) = g n u k) (k : Fin 20) :
    out5_3 x0 x1 (ix3 0 0 k) = pool f (fun n t k => 1 - g n t k) n k := by
  unfold out5_3
  frame_out
  pointwise [k5_pay1, k5_pay2, k5_pay3, k5_pay4, k5_pay5, k5_pay6, k5_pay7, k5_pay8]
  have hl : ∀ x : Fin 20, IntOp.cmpi CmpIPredicate.slt (BitVec.ofNat 32 x.val) 20#32 = BitVec.ofBool (decide (x.val < 20)) :=
    fun x => lane_lt x.val 20 (by omega) (by omega)
  simp only [h0, h1, hl, select_dec, bits_neg_inf, Fin.is_lt, if_true]
  rfl

theorem pool_eq (f g : Fin 4 → Fin 512 → Fin 20 → EReal) (n : Fin 4) :
    pool f g n = soft fun k => Ideal.div (∑ t, f n t k * g n t k) (cnt (∑ t, g n t k)) := rfl
attribute [irreducible] pool

theorem arr5_2 (c : Dev nD) (f g : Fin 4 → Fin 512 → Fin 20 → EReal)
    (h0 : ∀ n u (k : Fin 20), (V c main_v46_1 : FVec Ideal S4x512x32 .f32) (ix3 n u ⟨k.val, by omega⟩) = f n u k)
    (h1 : ∀ n u k, (V c main_v60 : FVec Ideal S4x512x20 .f32) (ix3 n u k) = g n u k) :
    (dat5 V c).arrAt 2 cfg5.N = poolArr f g := by
  refine (dat5 V c).arrAt_eq_of_covers 2 _ (by decide +kernel) fun t _ y => ?_
  obtain ⟨k, rfl⟩ := y5 y
  blk_simp
  rw [after5_2]
  exact (point5_2 _ _ f g (grid5.coords t 0) (fun u k => (b5_0 V c t u _).trans (h0 _ _ _)) (fun u k => (b5_1 V c t u k).trans (h1 _ _ _)) k).trans
    (congrArg (poolArr f g) (e5_2 t k).symm)
theorem arr5_3 (c : Dev nD) (f g : Fin 4 → Fin 512 → Fin 20 → EReal)
    (h0 : ∀ n u (k : Fin 20), (V c main_v46_1 : FVec Ideal S4x512x32 .f32) (ix3 n u ⟨k.val, by omega⟩) = f n u k)
    (h1 : ∀ n u k, (V c main_v60 : FVec Ideal S4x512x20 .f32) (ix3 n u k) = g n u k) :
    (dat5 V c).arrAt 3 cfg5.N = poolArr f (fun n t k => 1 - g n t k) := by
  refine (dat5 V c).arrAt_eq_of_covers 3 _ (by decide +kernel) fun t _ y => ?_
  obtain ⟨k, rfl⟩ := y5 y
  blk_simp
  rw [after5_3]
  exact (point5_3 _ _ f g (grid5.coords t 0) (fun u k => (b5_0 V c t u _).trans (h0 _ _ _)) (fun u k => (b5_1 V c t u k).trans (h1 _ _ _)) k).trans
    (congrArg (poolArr f fun n t k => 1 - g n t k) (e5_3 t k).symm)

end Cert.KernelIdeal.Whole
end
-- ==== Proof.KVal.lean ====
/-
  The kernel's run, region by region: what every result holds at its end, as a function of the arguments.
-/
module

public import proofs.«01_k».proof.Proof.KHost
public import proofs.«01_k».proof.Proof.Enc
public import proofs.«01_k».proof.Proof.Combine
public import proofs.«01_k».proof.Proof.Rank
public import proofs.«01_k».proof.Proof.ClusterVal
public import proofs.«01_k».proof.Proof.Pool
public import proofs.«01_k».proof.Proof.Spec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen

open Cert.Spec

variable (m : (ℓ : Loc nD τ sig) → Buf (Elt Ideal) ℓ) (ρ : Dev nD → PrngReg)

/-! ## The encoders -/

theorem v45 (c : Dev nD) : (W20 m ρ c (Proc.devRef .tc main_v45) : FVec Ideal S4x4x512x32 .f32) =
    enc0 (V19 m ρ c main_v2) (V19 m ρ c main_v11) (V19 m ρ c main_v17) (V19 m ρ c main_v34) (V19 m ρ c main_v44) :=
  (W20_arr m ρ c 5).trans (arr0 (V19 m ρ) c)

/-- Region 0's array at an index, from its operands' entries. -/
theorem enc0_eq (x : FVec Ideal S4x2x514x1024 .f32) (w : FVec Ideal S4x3x1024x1024 .f32) (b : FVec Ideal S4x1x1024 .f32)
    (w2 : FVec Ideal S4x1024x32 .f32) (b2 : FVec Ideal S4x1x32 .f32) (e : Fin 4) (p : Fin 2) (hp : e.val % 2 = p.val) (n : Fin 4) (t : Fin 512) (k : Fin 32)
    (X : Fin 512 → Fin 1024 → EReal) (Wt : Fin 1024 → Fin 1024 → Fin 3 → EReal) (B W2 : Fin 1024 → EReal) (B2 : EReal)
    (hx : ∀ (a : Fin 514) (i : Fin 1024), x (ix4 n p a i) = pad X a.val i) (hw : ∀ a i j, w (ix4 e a i j) = Wt j i a)
    (hb : ∀ j, b (ix3 e 0 j) = B j) (h2 : ∀ j, w2 (ix3 e j k) = W2 j) (hb2 : b2 (ix3 e 0 k) = B2) :
    enc0 x w b w2 b2 (ix4 e n t k) = enc X Wt B W2 B2 t := by
  have hx' : ∀ (a : Fin 514) (i : Fin 1024), x (ix4 n ⟨e.val % 2, by omega⟩ a i) = pad X a.val i := fun a i =>
    (congrArg (fun q => x (ix4 n q a i)) (Fin.ext hp)).trans (hx a i)
  unfold enc0 enc
  refine congrArg₂ (· + ·) (Finset.sum_congr rfl fun j _ => congrArg₂ (· * ·) (congrArg (fun z => max z 0) (congrArg₂ (· + ·) (congrArg₂ (· + ·) (congrArg₂ (· + ·) ?_ ?_) ?_) ?_)) ?_) ?_
  · exact Finset.sum_congr rfl fun i _ => congrArg₂ (· * ·) (hx' _ i) (hw 0 i j)
  · exact Finset.sum_congr rfl fun i _ => congrArg₂ (· * ·) (hx' _ i) (hw 1 i j)
  · exact Finset.sum_congr rfl fun i _ => congrArg₂ (· * ·) (hx' _ i) (hw 2 i j)
  · exact hb j
  · exact h2 j
  · exact hb2

theorem x_rgb (c : Dev nD) (n : Fin 4) (a : Fin 514) (i : Fin 1024) :
    (V19 m ρ c main_v2 : FVec Ideal S4x2x514x1024 .f32) (ix4 n 0 a i) = pad (rgb (args m c) n) a.val i :=
  (x_at m ρ c n 0 a i).trans (congrArg (fun x => pad x a.val i) (funext fun t => funext fun i => congrArg ((args m c).a0 n t) (Fin.ext (by simp))))
theorem x_flow (c : Dev nD) (n : Fin 4) (a : Fin 514) (i : Fin 1024) :
    (V19 m ρ c main_v2 : FVec Ideal S4x2x514x1024 .f32) (ix4 n 1 a i) = pad (flow (args m c) n) a.val i :=
  (x_at m ρ c n 1 a i).trans (congrArg (fun x => pad x a.val i) (funext fun t => funext fun i => congrArg ((args m c).a0 n t) (Fin.ext (by simp))))

/-- Region 0's result array. -/
def encs (c : Dev nD) : FVec Ideal S4x4x512x32 .f32 := W20 m ρ c (Proc.devRef .tc main_v45)

theorem enc_at0 (c : Dev nD) (n : Fin 4) (t : Fin 512) (k : Fin 32) (h : k.val < 20) :
    encs m ρ c (ix4 0 n t k) =
      enc (rgb (args m c) n) (args m c).a1 (args m c).a2 ((args m c).a3 ⟨k.val, h⟩) ((args m c).a4 ⟨k.val, h⟩) t :=
  (congrFun (v45 m ρ c) _).trans (enc0_eq _ _ _ _ _ 0 0 rfl n t k _ _ _ _ _ (x_rgb m ρ c n) (w_at0 m ρ c) (b_at0 m ρ c) (fun j => h_at0 m ρ c j k h) (d_at0 m ρ c k h))

theorem enc_at1 (c : Dev nD) (n : Fin 4) (t : Fin 512) (k : Fin 32) (h : k.val < 20) :
    encs m ρ c (ix4 1 n t k) =
      enc (flow (args m c) n) (args m c).a5 (args m c).a6 ((args m c).a7 ⟨k.val, h⟩) ((args m c).a8 ⟨k.val, h⟩) t :=
  (congrFun (v45 m ρ c) _).trans (enc0_eq _ _ _ _ _ 1 1 rfl n t k _ _ _ _ _ (x_flow m ρ c n) (w_at1 m ρ c) (b_at1 m ρ c) (fun j => h_at1 m ρ c j k h) (d_at1 m ρ c k h))

theorem enc_at2 (c : Dev nD) (n : Fin 4) (t : Fin 512) :
    encs m ρ c (ix4 2 n t 0) =
      enc (rgb (args m c) n) (args m c).a9 (args m c).a10 (args m c).a11 (args m c).a12 t :=
  (congrFun (v45 m ρ c) _).trans (enc0_eq _ _ _ _ _ 2 0 rfl n t 0 _ _ _ _ _ (x_rgb m ρ c n) (w_at2 m ρ c) (b_at2 m ρ c) (h_at2 m ρ c) (d_at2 m ρ c))

theorem enc_at3 (c : Dev nD) (n : Fin 4) (t : Fin 512) :
    encs m ρ c (ix4 3 n t 0) =
      enc (flow (args m c) n) (args m c).a13 (args m c).a14 (args m c).a15 (args m c).a16 t :=
  (congrFun (v45 m ρ c) _).trans (enc0_eq _ _ _ _ _ 3 1 rfl n t 0 _ _ _ _ _ (x_flow m ρ c n) (w_at3 m ρ c) (b_at3 m ρ c) (h_at3 m ρ c) (d_at3 m ρ c))

/-! ## The scores -/

theorem cas_lane (c : Dev nD) (n : Fin 4) (t : Fin 512) (k : Fin 32) (h : k.val < 20) :
    encs m ρ c (ix4 0 n t k) + encs m ρ c (ix4 1 n t k)
      = cas (args m c) n t ⟨k.val, h⟩ := by
  rw [enc_at0 m ρ c n t k h, enc_at1 m ρ c n t k h]; rfl

theorem att_lane (c : Dev nD) (n : Fin 4) (t : Fin 512) :
    encs m ρ c (ix4 2 n t 0) + encs m ρ c (ix4 3 n t 0)
      = att (args m c) n t := by
  rw [enc_at2 m ρ c n t, enc_at3 m ρ c n t]; rfl

theorem v46_1 (c : Dev nD) (n : Fin 4) (t : Fin 512) (k : Fin 20) :
    (W21 m ρ c (Proc.devRef .tc main_v46_1) : FVec Ideal S4x512x32 .f32) (ix3 n t ⟨k.val, by omega⟩) = cas (args m c) n t k := by
  rw [show (W21 m ρ c (Proc.devRef .tc main_v46_1) : FVec Ideal S4x512x32 .f32) = _ from (W21_arr m ρ c 2).trans (arr1_2 (V20 m ρ) c)]
  unfold cas1
  exact (if_pos k.2).trans (cas_lane m ρ c n t ⟨k.val, by omega⟩ k.2)

theorem v46_2 (c : Dev nD) (n : Fin 4) (t : Fin 512) :
    (W21 m ρ c (Proc.devRef .tc main_v46_2) : FVec Ideal S4x512x32 .f32) (ix3 n t 0) = sigm (att (args m c) n t) := by
  rw [show (W21 m ρ c (Proc.devRef .tc main_v46_2) : FVec Ideal S4x512x32 .f32) = _ from (W21_arr m ρ c 3).trans (arr1_3 (V20 m ρ) c)]
  unfold att1
  exact congrArg sigm (att_lane m ρ c n t)

theorem v46_0 (c : Dev nD) (n : Fin 4) (t : Fin 512) (k : Fin 20) :
    (W21 m ρ c (Proc.devRef .tc main_v46_0) : FVec Ideal S4x512x32 .f32) (ix3 n t ⟨k.val, by omega⟩) = seg (args m c) n t k := by
  rw [show (W21 m ρ c (Proc.devRef .tc main_v46_0) : FVec Ideal S4x512x32 .f32) = _ from (W21_arr m ρ c 1).trans (arr1_1 (V20 m ρ) c),
    seg1_pos _ n t ⟨k.val, by omega⟩ k.2]
  unfold seg
  exact congrArg₂ (fun a b => Ideal.div (a + b) 2) (congrArg (soft · k) (funext fun j => cas_lane m ρ c n t ⟨j.val, by omega⟩ j.2))
    (congrArg sigm (att_lane m ρ c n t))

theorem v47 (c : Dev nD) (n : Fin 4) (t : Fin 512) (k : Fin 20) :
    (W22 m ρ c (Proc.devRef .tc main_v47) : FVec Ideal S4x512x20 .f32) (ix3 n t k) = seg (args m c) n t k := by
  rw [← v46_0 m ρ c n t k]
  unfold W22
  after_reads_at

theorem v50 (c : Dev nD) (r : Fin 80) (u : Fin 512) :
    (W22 m ρ c (Proc.devRef .tc main_v50) : FVec Ideal S80x1x512 .f32) (ix3 r 0 u) = row (args m c) r u := by
  unfold row
  rw [← v46_0 m ρ c]
  unfold W22
  after_reads_at

theorem v51 (c : Dev nD) (r : Fin 80) (u : Fin 512) :
    (W22 m ρ c (Proc.devRef .tc main_v51) : FVec Ideal S80x512x1 .f32) (ix3 r u 0) = row (args m c) r u := by
  unfold row
  rw [← v46_0 m ρ c]
  unfold W22
  after_reads_at

/-! ## The order of the rows -/

theorem v52_0 (c : Dev nD) : (W23 m ρ c (Proc.devRef .tc main_v52_0) : FVec Ideal S80x512x1 .f32) = srtArr (row (args m c)) :=
  (W23_arr m ρ c 2).trans (arr2_2 (V22 m ρ) c _ (v50 m ρ c) (v51 m ρ c))
theorem v52_1 (c : Dev nD) : (W23 m ρ c (Proc.devRef .tc main_v52_1) : FVec Ideal S80x512x1 .f32) = rankArr (row (args m c)) :=
  (W23_arr m ρ c 3).trans (arr2_3 (V22 m ρ) c _ (v50 m ρ c) (v51 m ρ c))

theorem v54 (c : Dev nD) (i : Fin 512) (r : Fin 80) :
    (W24 m ρ c (Proc.devRef .tc main_v54) : FVec Ideal S512x80 .f32) (ix2 i r) = srt (row (args m c) r) i := by
  have h : (W23 m ρ c (Proc.devRef .tc main_v52_0) : FVec Ideal S80x512x1 .f32) (ix3 r i 0) = srt (row (args m c) r) i := by
    rw [v52_0]; rfl
  rw [← h]
  unfold W24
  after_reads_at

/-! ## The masks -/

theorem v55 (c : Dev nD) (i : Fin 512) (r : Fin 80) :
    (W25 m ρ c (Proc.devRef .tc main_v55) : FVec Ideal S512x80 .f32) (ix2 i r) = refined (srt (row (args m c) r)) i := by
  rw [show (W25 m ρ c (Proc.devRef .tc main_v55) : FVec Ideal S512x80 .f32) = _ from (W25_arr m ρ c 1).trans (arr3_1 (V24 m ρ) c)]
  exact (refE_eq _ i r).trans (congrArg (refined · i) (funext fun i => v54 m ρ c i r))

theorem v57 (c : Dev nD) (r : Fin 80) (i : Fin 512) :
    (W26 m ρ c (Proc.devRef .tc main_v57) : FVec Ideal S80x1x512 .f32) (ix3 r 0 i) = refined (srt (row (args m c) r)) i := by
  rw [← v55 m ρ c i r]
  unfold W26
  after_reads_at

theorem v52_1' (c : Dev nD) (r : Fin 80) (u : Fin 512) :
    (W26 m ρ c (Proc.devRef .tc main_v52_1) : FVec Ideal S80x512x1 .f32) (ix3 r u 0) = ((rk (row (args m c) r) u).val : EReal) := by
  rw [W26_of m ρ c main_v52_1 (by decide), W25_of m ρ c main_v52_1 (by decide), W24_of m ρ c main_v52_1 (by decide), v52_1]
  exact rankE_eq _ u

theorem v58 (c : Dev nD) (r : Fin 80) (u : Fin 512) :
    (W27 m ρ c (Proc.devRef .tc main_v58) : FVec Ideal S80x512x1 .f32) (ix3 r u 0) = mask (row (args m c) r) u := by
  rw [show (W27 m ρ c (Proc.devRef .tc main_v58) : FVec Ideal S80x512x1 .f32) = _ from
    (W27_arr m ρ c 2).trans (arr4_2 (V26 m ρ) c (fun r => rk (row (args m c) r)) (fun r => refined (srt (row (args m c) r))) (v52_1' m ρ c) (v57 m ρ c))]
  rfl

theorem row_eq (A : Args) (n : Fin 4) (k : Fin 20) : row A ⟨n.val * 20 + k.val, by omega⟩ = fun u => seg A n u k := by
  unfold row
  funext u
  exact congrArg₂ (fun n k => seg A n u k) (Fin.ext (by show (n.val * 20 + k.val) / 20 = n.val; omega)) (Fin.ext (by show (n.val * 20 + k.val) % 20 = k.val; omega))

theorem v60 (c : Dev nD) (n : Fin 4) (t : Fin 512) (k : Fin 20) :
    (W28 m ρ c (Proc.devRef .tc main_v60) : FVec Ideal S4x512x20 .f32) (ix3 n t k) = segMask (args m c) n t k := by
  unfold segMask
  rw [← row_eq, ← v58 m ρ c]
  unfold W28
  after_reads_at

/-! ## The pooled scores -/

theorem v46_1' (c : Dev nD) (n : Fin 4) (t : Fin 512) (k : Fin 20) :
    (W28 m ρ c (Proc.devRef .tc main_v46_1) : FVec Ideal S4x512x32 .f32) (ix3 n t ⟨k.val, by omega⟩) = cas (args m c) n t k := by
  rw [W28_of m ρ c main_v46_1 (by decide), W27_of m ρ c main_v46_1 (by decide), W26_of m ρ c main_v46_1 (by decide),
    W25_of m ρ c main_v46_1 (by decide), W24_of m ρ c main_v46_1 (by decide), W23_of m ρ c main_v46_1 (by decide),
    W22_of m ρ c main_v46_1 (by decide), v46_1]

theorem v61_0 (c : Dev nD) (n : Fin 4) (k : Fin 20) :
    (W29 m ρ c (Proc.devRef .tc main_v61_0) : FVec Ideal S4x1x20 .f32) (ix3 n 0 k) = act (args m c) n k := by
  rw [show (W29 m ρ c (Proc.devRef .tc main_v61_0) : FVec Ideal S4x1x20 .f32) = _ from
    (W29_arr m ρ c 2).trans (arr5_2 (V28 m ρ) c (cas (args m c)) (segMask (args m c)) (v46_1' m ρ c) (v60 m ρ c))]
  exact congrFun (pool_eq _ _ n) k

theorem v61_1 (c : Dev nD) (n : Fin 4) (k : Fin 20) :
    (W29 m ρ c (Proc.devRef .tc main_v61_1) : FVec Ideal S4x1x20 .f32) (ix3 n 0 k) = bkg (args m c) n k := by
  rw [show (W29 m ρ c (Proc.devRef .tc main_v61_1) : FVec Ideal S4x1x20 .f32) = _ from
    (W29_arr m ρ c 3).trans (arr5_3 (V28 m ρ) c (cas (args m c)) (segMask (args m c)) (v46_1' m ρ c) (v60 m ρ c))]
  exact congrFun (pool_eq _ _ n) k

/-! ## The results at the end of the run -/

theorem res1 (c : Dev nD) (n : Fin 4) (k : Fin 20) :
    (W30 m ρ c (Proc.devRef .tc main_v62) : FVec Ideal S4x20 .f32) (ix2 n k) = act (args m c) n k := by
  rw [← v61_0 m ρ c n k]
  unfold W30
  after_reads_at

theorem res2 (c : Dev nD) (n : Fin 4) (k : Fin 20) :
    (W30 m ρ c (Proc.devRef .tc main_v63) : FVec Ideal S4x20 .f32) (ix2 n k) = bkg (args m c) n k := by
  rw [← v61_1 m ρ c n k]
  unfold W30
  after_reads_at

theorem res3 (c : Dev nD) (n : Fin 4) (t : Fin 512) :
    (W30 m ρ c (Proc.devRef .tc main_v64) : FVec Ideal S4x512x1 .f32) (ix3 n t 0) = sigm (att (args m c) n t) := by
  have h : (W29 m ρ c (Proc.devRef .tc main_v46_2) : FVec Ideal S4x512x32 .f32) (ix3 n t 0) = sigm (att (args m c) n t) := by
    rw [W29_of m ρ c main_v46_2 (by decide), W28_of m ρ c main_v46_2 (by decide), W27_of m ρ c main_v46_2 (by decide),
      W26_of m ρ c main_v46_2 (by decide), W25_of m ρ c main_v46_2 (by decide), W24_of m ρ c main_v46_2 (by decide),
      W23_of m ρ c main_v46_2 (by decide), W22_of m ρ c main_v46_2 (by decide), v46_2]
  rw [← h]
  unfold W30
  after_reads_at

theorem res4 (c : Dev nD) (n : Fin 4) (t : Fin 512) (k : Fin 20) :
    (W30 m ρ c (Proc.devRef .tc main_v47) : FVec Ideal S4x512x20 .f32) (ix3 n t k) = seg (args m c) n t k := by
  rw [W30_of m ρ c main_v47 (by decide), W29_of m ρ c main_v47 (by decide), W28_of m ρ c main_v47 (by decide),
    W27_of m ρ c main_v47 (by decide), W26_of m ρ c main_v47 (by decide), W25_of m ρ c main_v47 (by decide),
    W24_of m ρ c main_v47 (by decide), W23_of m ρ c main_v47 (by decide), v47]

theorem res5 (c : Dev nD) (n : Fin 4) (t : Fin 512) (k : Fin 20) :
    (W30 m ρ c (Proc.devRef .tc main_v60) : FVec Ideal S4x512x20 .f32) (ix3 n t k) = segMask (args m c) n t k := by
  rw [W30_of m ρ c main_v60 (by decide), W29_of m ρ c main_v60 (by decide), v60]

end Cert.KernelIdeal.Whole
end
-- ==== Proof.RHead.lean ====
/-
  The reference before its loop: the arguments, the two sums of encoders, and the segment scores they give.
-/
module

public import proofs.«01_k».proof.Proof.RefFrame
public import proofs.«01_k».proof.Proof.Spec
public import Idealize.ShloMosaic.Lib.Pipeline.ValueKit
public import Idealize.ShloMosaic.Lib.StableHlo.ReadAt

@[expose] public section

set_option maxRecDepth 16384

noncomputable section

open Idealize.ShloMosaic Idealize.ShloMosaic.TcCoe Idealize.ShloMosaic.StableHlo Idealize.SL.Sem

namespace Cert.ReferenceIdeal.Whole

open Cert.ReferenceIdeal Cert.ReferenceIdeal.Gen Cert.ReferenceIdeal.Value

variable (m : (ℓ : Loc nD τ sig) → Buf (Elt Ideal) ℓ)

open Cert.Spec

variable (m : (ℓ : Loc nD τ sig) → Buf (Elt Ideal) ℓ) (ρ : Dev nD → PrngReg)

/-- The arguments of the run, index by index. -/
def args (c : Dev nD) : Args where
  a0 n t x := (m ((c : Thread nD τ).loc main_arg0) : FVec Ideal S4x512x2048 .f32) (ix3 n t x)
  a1 j i t := (m ((c : Thread nD τ).loc main_arg1) : FVec Ideal S1024x1024x3 .f32) (ix3 j i t)
  a2 j := (m ((c : Thread nD τ).loc main_arg2) : FVec Ideal S1024 .f32) (ix1 j)
  a3 k j := (m ((c : Thread nD τ).loc main_arg3) : FVec Ideal S20x1024x1 .f32) (ix3 k j 0)
  a4 k := (m ((c : Thread nD τ).loc main_arg4) : FVec Ideal S20 .f32) (ix1 k)
  a5 j i t := (m ((c : Thread nD τ).loc main_arg5) : FVec Ideal S1024x1024x3 .f32) (ix3 j i t)
  a6 j := (m ((c : Thread nD τ).loc main_arg6) : FVec Ideal S1024 .f32) (ix1 j)
  a7 k j := (m ((c : Thread nD τ).loc main_arg7) : FVec Ideal S20x1024x1 .f32) (ix3 k j 0)
  a8 k := (m ((c : Thread nD τ).loc main_arg8) : FVec Ideal S20 .f32) (ix1 k)
  a9 j i t := (m ((c : Thread nD τ).loc main_arg9) : FVec Ideal S1024x1024x3 .f32) (ix3 j i t)
  a10 j := (m ((c : Thread nD τ).loc main_arg10) : FVec Ideal S1024 .f32) (ix1 j)
  a11 j := (m ((c : Thread nD τ).loc main_arg11) : FVec Ideal S1x1024x1 .f32) (ix3 0 j 0)
  a12 := (m ((c : Thread nD τ).loc main_arg12) : FVec Ideal S1 .f32) (ix1 0)
  a13 j i t := (m ((c : Thread nD τ).loc main_arg13) : FVec Ideal S1024x1024x3 .f32) (ix3 j i t)
  a14 j := (m ((c : Thread nD τ).loc main_arg14) : FVec Ideal S1024 .f32) (ix1 j)
  a15 j := (m ((c : Thread nD τ).loc main_arg15) : FVec Ideal S1x1024x1 .f32) (ix3 0 j 0)
  a16 := (m ((c : Thread nD τ).loc main_arg16) : FVec Ideal S1 .f32) (ix1 0)

/-- The buffers before the segment scores are computed. -/
abbrev atScores (c : Dev nD) : Valuation τ sig (Elt Ideal) :=
  after hostOps0_15 (after hostOps0_14 (after hostOps0_13 (after hostOps0_12 (after hostOps0_11 (after hostOps0_10 (after hostOps0_9 (after hostOps0_8 (after hostOps0_7 (after hostOps0_6 (after hostOps0_5 (after hostOps0_4 (after hostOps0_3 (after hostOps0_2 (after hostOps0_1 (after hostOps0 (launchContents m c))))))))))))))))

theorem entry_split (c : Dev nD) : atEntry m c = after hostOps0_18 (after hostOps0_17 (after hostOps0_16 (atScores m c))) := rfl

theorem scores_cas (c : Dev nD) (n : Fin 4) (t : Fin 512) (k : Fin 20) :
    (atScores m c (Proc.devRef .tc main_v50) : FVec Ideal S4x512x20 .f32) (ix3 n t k) = cas (args m c) n t k := by
  unfold cas
  rw [enc_mid, enc_mid]
  unfold atScores
  after_reads_at
  rw [sitofp_zero]
  rfl

theorem scores_att (c : Dev nD) (n : Fin 4) (t : Fin 512) :
    (after hostOps0_16 (atScores m c) (Proc.devRef .tc main_v99) : FVec Ideal S4x512x1 .f32) (ix3 n t 0) = att (args m c) n t := by
  unfold att
  rw [enc_mid, enc_mid]
  unfold atScores
  after_reads_at
  rw [sitofp_zero]
  rfl

theorem read_seg (V : Valuation τ sig (Elt Ideal)) (n : Fin 4) (t : Fin 512) (k : Fin 20) :
    (after hostOps0_16 V (Proc.devRef .tc main_v120) : FVec Ideal S4x512x20 .f32) (ix3 n t k) =
      Ideal.div (soft (fun k => (V (Proc.devRef .tc main_v50) : FVec Ideal S4x512x20 .f32) (ix3 n t k)) k
        + sigm ((after hostOps0_16 V (Proc.devRef .tc main_v99) : FVec Ideal S4x512x1 .f32) (ix3 n t 0))) 2 := by
  after_reads_at
  simp only [bits_neg_inf, bits_two, max_eq_right (bot_le (α := EReal))]
  rfl

theorem read_aas (V : Valuation τ sig (Elt Ideal)) (n : Fin 4) (t : Fin 512) :
    (after hostOps0_16 V (Proc.devRef .tc main_v116) : FVec Ideal S4x512x1 .f32) (ix3 n t 0) =
      sigm ((after hostOps0_16 V (Proc.devRef .tc main_v99) : FVec Ideal S4x512x1 .f32) (ix3 n t 0)) := by
  after_reads_at
  rfl

theorem read_s (V : Valuation τ sig (Elt Ideal)) (r : Fin 80) (t : Fin 512) :
    (after hostOps0_16 V (Proc.devRef .tc main_v122) : FVec Ideal S80x512 .f32) (ix2 r t) =
      (after hostOps0_16 V (Proc.devRef .tc main_v120) : FVec Ideal S4x512x20 .f32) (ix3 ⟨r.val / 20, by omega⟩ t ⟨r.val % 20, by omega⟩) := by
  after_reads_at

/-! ## The scores at the loop's entry -/

theorem keep16 (c : Dev nD) (r : Ref sig .tc) (h : r ∉ hostOps0_17_W) (h' : r ∉ hostOps0_18_W) :
    atEntry m c (Proc.devRef .tc r) = after hostOps0_16 (atScores m c) (Proc.devRef .tc r) := by
  rw [entry_split, after_of_writes_sub hostOps0_18 _ hostOps0_18_writes h', after_of_writes_sub hostOps0_17 _ hostOps0_17_writes h]

theorem entry_cas (c : Dev nD) (n : Fin 4) (t : Fin 512) (k : Fin 20) :
    (atEntry m c (Proc.devRef .tc main_v50) : FVec Ideal S4x512x20 .f32) (ix3 n t k) = cas (args m c) n t k := by
  rw [keep16 m c main_v50 (by decide) (by decide), after_of_writes_sub hostOps0_16 _ hostOps0_16_writes (by decide), scores_cas]

theorem seg16 (c : Dev nD) (n : Fin 4) (t : Fin 512) (k : Fin 20) :
    (after hostOps0_16 (atScores m c) (Proc.devRef .tc main_v120) : FVec Ideal S4x512x20 .f32) (ix3 n t k) = seg (args m c) n t k := by
  rw [read_seg, scores_att]
  unfold seg
  exact congrArg (fun f => Ideal.div (soft f k + sigm (att (args m c) n t)) 2) (funext fun k => scores_cas m c n t k)

theorem entry_seg (c : Dev nD) (n : Fin 4) (t : Fin 512) (k : Fin 20) :
    (atEntry m c (Proc.devRef .tc main_v120) : FVec Ideal S4x512x20 .f32) (ix3 n t k) = seg (args m c) n t k := by
  rw [keep16 m c main_v120 (by decide) (by decide), seg16]

theorem entry_aas (c : Dev nD) (n : Fin 4) (t : Fin 512) :
    (atEntry m c (Proc.devRef .tc main_v116) : FVec Ideal S4x512x1 .f32) (ix3 n t 0) = sigm (att (args m c) n t) := by
  rw [keep16 m c main_v116 (by decide) (by decide), read_aas, scores_att]

theorem row16 (c : Dev nD) (r : Fin 80) (t : Fin 512) :
    (after hostOps0_16 (atScores m c) (Proc.devRef .tc main_v122) : FVec Ideal S80x512 .f32) (ix2 r t) = row (args m c) r t := by
  rw [read_s, seg16]; rfl

theorem entry_row (c : Dev nD) (r : Fin 80) (t : Fin 512) :
    (atEntry m c (Proc.devRef .tc main_v122) : FVec Ideal S80x512 .f32) (ix2 r t) = row (args m c) r t := by
  rw [keep16 m c main_v122 (by decide) (by decide), row16]

end Cert.ReferenceIdeal.Whole
end
-- ==== Proof.RLoop.lean ====
/-
  The reference's loop: what the carried buffers hold before every trip. The order, the sorted scores and the positions
  never change; the sums and counts are those of the row; the mask holds the answers of the trips so far.
-/
module

public import proofs.«01_k».proof.Proof.RefFrame
public import proofs.«01_k».proof.Proof.Spec
public import Idealize.ShloMosaic.Lib.Pipeline.ValueKit
public import Idealize.ShloMosaic.Lib.StableHlo.ReadAt
public import Idealize.ShloMosaic.Lib.DynamicIndex

@[expose] public section

set_option maxRecDepth 16384

noncomputable section

open Idealize.ShloMosaic Idealize.ShloMosaic.TcCoe Idealize.ShloMosaic.StableHlo Idealize.SL.Sem

namespace Cert.ReferenceIdeal.Whole

open Cert.ReferenceIdeal Cert.ReferenceIdeal.Gen Cert.ReferenceIdeal.Value

open Cert.Spec

/-! ## One trip's operations, at an index -/

theorem one_more {k : ℕ} (hk : k + 1 < 1024) : IntOp.addi (BitVec.ofNat 32 k) 1#32 = BitVec.ofNat 32 (k + 1) := by
  show BitVec.ofNat 32 k + 1#32 = _
  apply BitVec.eq_of_toNat_eq
  simp

/-- The trip's column of an array of rows. -/
theorem slice_at {α : Type} (x : S80x512.Idx → α) (i : IVec S_ 32) (k : ℕ) (hk : k < 512) (hi : ∀ z, i z = BitVec.ofNat 32 k) (r : Fin 80) :
    Host.dynamicSlice S80x1 x (fun k => (((![constantI S_ 32 0#32, select (cmpi .slt i (constantI S_ 32 0#32)) (addi (id i) (constantI S_ 32 512#32)) i] : Fin 2 → IVec S_ 32)) k (Shape.Idx.first h_S_)).toInt) sliceFits_S80x512_S80x1 (ix2 r 0)
      = x (ix2 r ⟨k, hk⟩) := by
  have hn : (BitVec.ofNat 32 k).toInt = (k : ℤ) := by
    rw [BitVec.toInt_eq_toNat_of_lt (by simp; omega), BitVec.toNat_ofNat, Nat.mod_eq_of_lt (by omega)]
  have hs : IntOp.cmpi .slt (BitVec.ofNat 32 k) 0#32 = 0#1 := by
    have := lane_lt k 0 (by omega) (by omega)
    rw [show (0#32 : BitVec 32) = BitVec.ofNat 32 0 from rfl, this]
    simp
  have h1 : (select (cmpi .slt i (constantI S_ 32 0#32)) (addi (id i) (constantI S_ 32 512#32)) i : IVec S_ 32) (Shape.Idx.first h_S_) = BitVec.ofNat 32 k := by
    show Scalar.select (IntOp.cmpi .slt (i _) 0#32) _ (i _) = _
    rw [hi, hs]; rfl
  rw [Host.dynamicSlice_eq_extractStridedSlice S80x1 x _ ![0, k] sliceFits_S80x512_S80x1 ⟨rfl, fun a => by fin_cases a <;> simp <;> omega⟩ ?_]
  · pointwise
  · intro a
    fin_cases a
    · rfl
    · exact (congrArg BitVec.toInt h1).trans hn

theorem ps_gen (a v : FVec Ideal S80x1 .f32) (c : IVec S80x1 1) (i : IVec S_ 32) (k : ℕ) (hk : k < 512) (hi : ∀ z, i z = BitVec.ofNat 32 k)
    (r : Fin 80) (P : Prop) [Decidable P] (hc : c (ix2 r 0) = BitVec.ofBool (decide P)) :
    (id (addf a (Host.divf (select c v (broadcastInDim S80x1 ![] bcast_S_S80x1 (constant S_ .f32 0x00000000#32))) (broadcastInDim S80x1 ![] bcast_S_S80x1 (sitofp .f32 (addi i (constantI S_ 32 1#32)))))) : FVec Ideal S80x1 .f32) (ix2 r 0)
      = a (ix2 r 0) + Ideal.div (if P then v (ix2 r 0) else 0) ((k + 1 : ℕ) : EReal) := by
  rw [id_eq]
  pointwise
  rw [hi, hc, select_dec, one_more (by omega), sitofp_nat (by omega)]

theorem pn_gen (a : FVec Ideal S80x1 .f32) (c : IVec S80x1 1) (i : IVec S_ 32) (k : ℕ) (hk : k < 512) (hi : ∀ z, i z = BitVec.ofNat 32 k)
    (r : Fin 80) (P : Prop) [Decidable P] (hc : c (ix2 r 0) = BitVec.ofBool (decide P)) :
    (id (addf a (Host.divf (uitofp .f32 c) (broadcastInDim S80x1 ![] bcast_S_S80x1 (sitofp .f32 (addi i (constantI S_ 32 1#32)))))) : FVec Ideal S80x1 .f32) (ix2 r 0)
      = a (ix2 r 0) + Ideal.div (if P then 1 else 0) ((k + 1 : ℕ) : EReal) := by
  rw [id_eq]
  pointwise
  rw [hi, hc, uitofp_bool, one_more (by omega), sitofp_nat (by omega)]

theorem eq_word (u j : Fin 512) : IntOp.cmpi .eq (BitVec.ofNat 32 u.val) (BitVec.ofNat 32 j.val) = BitVec.ofBool (decide (u = j)) := by
  show BitVec.ofBool (BitVec.ofNat 32 u.val == BitVec.ofNat 32 j.val) = _
  congr 1
  rw [Bool.eq_iff_iff, beq_iff_eq, decide_eq_true_iff]
  refine ⟨fun h => ?_, fun h => by rw [h]⟩
  have := congrArg BitVec.toNat h
  rw [BitVec.toNat_ofNat, BitVec.toNat_ofNat, Nat.mod_eq_of_lt (by omega), Nat.mod_eq_of_lt (by omega)] at this
  exact Fin.ext this

theorem not_dec (P : Prop) [Decidable P] : ~~~BitVec.ofBool (decide P) = BitVec.ofBool (decide (¬ P)) := by
  by_cases h : P <;> simp [h]

theorem ns_gen (a v : FVec Ideal S80x1 .f32) (c : IVec S80x1 1) (r : Fin 80) (P : Prop) [Decidable P] (hc : c (ix2 r 0) = BitVec.ofBool (decide P)) :
    (id (addf a (select (noti c) v (broadcastInDim S80x1 ![] bcast_S_S80x1 (constant S_ .f32 0x00000000#32)))) : FVec Ideal S80x1 .f32) (ix2 r 0)
      = a (ix2 r 0) + (if P then 0 else v (ix2 r 0)) := by
  rw [id_eq]
  pointwise
  rw [hc, not_dec, select_dec, ite_not]

theorem nn_gen (a : FVec Ideal S80x1 .f32) (c : IVec S80x1 1) (r : Fin 80) (P : Prop) [Decidable P] (hc : c (ix2 r 0) = BitVec.ofBool (decide P)) :
    (id (addf a (uitofp .f32 (noti c))) : FVec Ideal S80x1 .f32) (ix2 r 0) = a (ix2 r 0) + (if P then 0 else 1) := by
  rw [id_eq]
  pointwise
  rw [hc, not_dec, uitofp_bool, ite_not]

theorem msk_gen (pos : IVec S80x512 32) (x : IVec S80x1 32) (c : IVec S80x1 1) (q : FVec Ideal S80x512 .f32) (r : Fin 80) (u : Fin 512) (P : Prop) [Decidable P]
    (hc : c (ix2 r 0) = BitVec.ofBool (decide P)) (j : Fin 512) (hx : x (ix2 r 0) = BitVec.ofNat 32 j.val) (hp : pos (ix2 r u) = BitVec.ofNat 32 u.val) :
    (id (select (cmpi .eq pos (broadcastInDim S80x512 ![0, 1] bcast_S80x1_S80x512_0_1 x)) (broadcastInDim S80x512 ![0, 1] bcast_S80x1_S80x512_0_1 (uitofp .f32 c)) q) : FVec Ideal S80x512 .f32) (ix2 r u)
      = if u = j then (if P then 1 else 0) else q (ix2 r u) := by
  rw [id_eq]
  pointwise
  rw [hc, hx, hp, uitofp_bool, eq_word, select_dec]

theorem near_gen (x a b d e : FVec Ideal S80x1 .f32) (r : Fin 80) :
    (cmpf .ole (Host.absf (subf x (Host.divf a b))) (Host.absf (subf x (Host.divf d e))) : IVec S80x1 1) (ix2 r 0)
      = BitVec.ofBool (decide (near (x (ix2 r 0)) ⟨a (ix2 r 0), b (ix2 r 0), d (ix2 r 0), e (ix2 r 0)⟩)) := by
  pointwise
  rfl

/-- What the loop carries before trip `k`, of rows whose entries are placed by `p` and, in order, are `v`. -/
structure Inv (p : Fin 80 → Equiv.Perm (Fin 512)) (v : Fin 80 → Fin 512 → EReal) (k : ℕ) (V : Valuation τ sig (Elt Ideal)) : Prop where
  ord : ∀ r i, (V (Proc.devRef .tc main_v136_0) : IVec S80x512 32) (ix2 r i) = BitVec.ofNat 32 ((p r).symm i).val
  val : ∀ r i, (V (Proc.devRef .tc main_v136_1) : FVec Ideal S80x512 .f32) (ix2 r i) = v r i
  pos : ∀ r u, (V (Proc.devRef .tc main_v136_2) : IVec S80x512 32) (ix2 r u) = BitVec.ofNat 32 u.val
  ctr : ∀ z, (V (Proc.devRef .tc main_v136_4) : IVec S_ 32) z = BitVec.ofNat 32 (k + 1)
  msk : ∀ r u, (V (Proc.devRef .tc main_v136_5) : FVec Ideal S80x512 .f32) (ix2 r u) =
    (if (p r u).val = 0 then (1 : EReal) else if (p r u).val ≤ k then (if near (v r (p r u)) (carry (v r) ((p r u).val - 1)) then 1 else 0) else 0 : EReal)
  ps : ∀ r, (V (Proc.devRef .tc main_v136_6) : FVec Ideal S80x1 .f32) (ix2 r 0) = (carry (v r) k).ps
  pn : ∀ r, (V (Proc.devRef .tc main_v136_7) : FVec Ideal S80x1 .f32) (ix2 r 0) = (carry (v r) k).pn
  ns : ∀ r, (V (Proc.devRef .tc main_v136_8) : FVec Ideal S80x1 .f32) (ix2 r 0) = (carry (v r) k).ns
  nn : ∀ r, (V (Proc.devRef .tc main_v136_9) : FVec Ideal S80x1 .f32) (ix2 r 0) = (carry (v r) k).nn

variable {p : Fin 80 → Equiv.Perm (Fin 512)} {v : Fin 80 → Fin 512 → EReal} {k : ℕ} {V : Valuation τ sig (Elt Ideal)}

theorem Inv.cond (I : Inv p v k V) : Inv p v k (after condOps V) := by
  have e : ∀ r : Ref sig .tc, r ∉ condOps_W → after condOps V (Proc.devRef .tc r) = V (Proc.devRef .tc r) := fun r h =>
    after_of_writes_sub condOps _ condOps_writes h
  constructor
  · rw [e _ (by decide)]; exact I.ord
  · rw [e _ (by decide)]; exact I.val
  · rw [e _ (by decide)]; exact I.pos
  · rw [e _ (by decide)]; exact I.ctr
  · rw [e _ (by decide)]; exact I.msk
  · rw [e _ (by decide)]; exact I.ps
  · rw [e _ (by decide)]; exact I.pn
  · rw [e _ (by decide)]; exact I.ns
  · rw [e _ (by decide)]; exact I.nn

theorem Inv.value (I : Inv p v k V) (hk : k + 1 < 512) (r : Fin 80) :
    (res_main_while0b_v207 V : FVec Ideal S80x1 .f32) (ix2 r 0) = v r ⟨k + 1, hk⟩ := by
  unfold res_main_while0b_v207
  exact (slice_at _ _ (k + 1) hk I.ctr r).trans (I.val r _)

theorem Inv.near (I : Inv p v k V) (hk : k + 1 < 512) (r : Fin 80) :
    (res_main_while0b_v212 V : IVec S80x1 1) (ix2 r 0) = BitVec.ofBool (decide (near (v r ⟨k + 1, hk⟩) (carry (v r) k))) := by
  unfold res_main_while0b_v212
  refine (near_gen _ _ _ _ _ r).trans ?_
  rw [I.value hk, I.ps, I.pn, I.ns, I.nn]

/-- One trip. -/
theorem Inv.trip (I : Inv p v k V) (hk : k < 510) : Inv p v (k + 1) (afterL bodyI V) := by
  have hk' : k + 1 < 512 := by omega
  have hs : ∀ r, carry (v r) (k + 1) = step ((k + 2 : ℕ) : EReal) (v r ⟨k + 1, hk'⟩) (carry (v r) k) := fun r => by
    rw [carry, dif_pos hk']
  have hz : Ideal.div 0 ((k + 2 : ℕ) : EReal) = 0 := Ideal.zero_div (by
    have : (k + 2 : ℕ) ≠ 0 := by omega
    exact_mod_cast this)
  constructor
  · rw [trip_main_v136_0]; exact I.ord
  · rw [trip_main_v136_1]; exact I.val
  · rw [trip_main_v136_2]; exact I.pos
  · intro z
    refine (congrFun (trip_main_v136_4 V) z).trans ?_
    show IntOp.addi ((V (Proc.devRef .tc main_v136_4) : IVec S_ 32) z) 1#32 = _
    rw [I.ctr, one_more (by omega)]
  · intro r u
    refine (congrFun (trip_main_v136_5 V) (ix2 r u)).trans ((msk_gen _ _ _ _ r u _ (I.near hk' r) ((p r).symm ⟨k + 1, hk'⟩)
      ((slice_at _ _ (k + 1) hk' I.ctr r).trans (I.ord r _)) (I.pos r u)).trans ?_)
    rw [I.msk]
    by_cases h : (p r u).val = k + 1
    · have hp : p r u = ⟨k + 1, hk'⟩ := Fin.ext h
      have hu : u = (p r).symm ⟨k + 1, hk'⟩ := by rw [← hp, Equiv.symm_apply_apply]
      rw [if_pos hu, hp]
      rw [if_neg (show ¬ k + 1 = 0 by omega), if_pos (show k + 1 ≤ k + 1 by omega)]
      rfl
    · have hu : ¬ u = (p r).symm ⟨k + 1, hk'⟩ := fun e => h (by rw [e, Equiv.apply_symm_apply])
      rw [if_neg hu]
      by_cases h0 : (p r u).val = 0
      · rw [if_pos h0, if_pos h0]
      · rw [if_neg h0, if_neg h0]
        by_cases hl : (p r u).val ≤ k
        · rw [if_pos hl, if_pos (show (p r u).val ≤ k + 1 by omega)]
        · rw [if_neg hl, if_neg (show ¬ (p r u).val ≤ k + 1 by omega)]
  · intro r
    refine (congrFun (trip_main_v136_6 V) (ix2 r 0)).trans ((ps_gen _ _ _ _ (k + 1) hk' I.ctr r _ (I.near hk' r)).trans ?_)
    rw [I.ps, I.value hk', hs, step]
    split_ifs
    · rfl
    · rw [hz, add_zero]
  · intro r
    refine (congrFun (trip_main_v136_7 V) (ix2 r 0)).trans ((pn_gen _ _ _ (k + 1) hk' I.ctr r _ (I.near hk' r)).trans ?_)
    rw [I.pn, hs, step]
    split_ifs
    · rfl
    · rw [hz, add_zero]
  · intro r
    refine (congrFun (trip_main_v136_8 V) (ix2 r 0)).trans ((ns_gen _ _ _ r _ (I.near hk' r)).trans ?_)
    rw [I.ns, I.value hk', hs, step]
    split_ifs
    · exact add_zero _
    · rfl
  · intro r
    refine (congrFun (trip_main_v136_9 V) (ix2 r 0)).trans ((nn_gen _ _ r _ (I.near hk' r)).trans ?_)
    rw [I.nn, hs, step]
    split_ifs
    · exact add_zero _
    · rfl

/-- Every trip. -/
theorem Inv.all (m : (ℓ : Loc nD τ sig) → Buf (Elt Ideal) ℓ) (c : Dev nD) (I : Inv p v 0 (atEntry m c)) : ∀ k, k ≤ 510 → Inv p v k (atK m k c)
  | 0, _ => I
  | k + 1, h => by
    rw [show atK m (k + 1) c = afterL bodyI (after condOps (atK m k c)) from rfl]
    exact (Inv.all m c I k (by omega)).cond.trip (by omega)

end Cert.ReferenceIdeal.Whole
end
-- ==== Proof.RSort.lean ====
/-
  The reference's sort: the rows' scores from the highest down, of equal scores the earlier first. Position `i` of the order
  is the score of rank `i`; with that the loop's carried buffers are right before the first trip.
-/
module

public import proofs.«01_k».proof.Proof.RHead
public import proofs.«01_k».proof.Proof.RLoop
public import Idealize.ShloMosaic.Lib.SortPrefix

@[expose] public section

set_option maxRecDepth 16384

noncomputable section

open Idealize.ShloMosaic Idealize.ShloMosaic.TcCoe Idealize.ShloMosaic.StableHlo Idealize.SL.Sem

namespace Cert.ReferenceIdeal.Whole

open Cert.ReferenceIdeal Cert.ReferenceIdeal.Gen Cert.ReferenceIdeal.Value

open Cert.Spec

variable (m : (ℓ : Loc nD τ sig) → Buf (Elt Ideal) ℓ)

/-! ## A stable sort by the score is the sort by the score and then the position -/

theorem stable_congr (s : Fin 512 → EReal) (l : List (Fin 512)) (hl : l.Pairwise (· < ·)) :
    stableSort (fun a b => decide (s b < s a)) l = stableSort (fun a b => decide (before s a b)) l := by
  induction l with
  | nil => rfl
  | cons a l ih =>
    rw [List.pairwise_cons] at hl
    show insertBefore _ a (stableSort _ l) = insertBefore _ a (stableSort _ l)
    rw [ih hl.2]
    refine insertBefore_congr _ _ a _ fun b hb => ?_
    have hab : a < b := hl.1 b ((perm_stableSort _ l).mem_iff.1 hb)
    refine decide_eq_decide.2 ⟨.inl, ?_⟩
    rintro (h | ⟨_, h⟩)
    · exact h
    · exact absurd h (lt_asymm hab)

theorem before_strict (s : Fin 512 → EReal) : StrictTotalBefore fun a b => decide (before s a b) where
  irrefl a := decide_eq_false (before_irrefl s a)
  trans a b c h h' := decide_eq_true (before_trans s (of_decide_eq_true h) (of_decide_eq_true h'))
  total a b h := (before_total s h).imp decide_eq_true decide_eq_true

/-- The sort's `i`-th comes from the position of rank `i`. -/
theorem sorted_rk (s : Fin 512 → EReal) (i : Fin 512) :
    sortedFrom (fun a b => decide (s b < s a)) i = (rk s).symm i := by
  have hrank : ∀ i, rank s ((rk s).symm i) = i.val := fun i => by rw [← rk_val, Equiv.apply_symm_apply]
  have e := (before_strict s).sortedFrom_eq_of_prefix le_rfl (rk s).symm (Equiv.injective _)
    (fun i j hij => decide_eq_false fun h => by
      have := rank_lt_rank s h
      rw [hrank, hrank] at this
      exact absurd hij (by simp only [Fin.lt_def]; omega))
    (fun i p hp => absurd ((rk s).symm_apply_apply p) (hp _)) i
  refine Eq.trans ?_ e
  unfold sortedFrom sortPositions
  rw [List.get_of_eq (stable_congr s _ (List.pairwise_lt_finRange 512))]
  rfl

/-! ## The printed comparator -/

theorem sel_dec {α : Type} (p : Prop) [Decidable p] (a b : α) : Scalar.select (BitVec.ofBool (decide p)) a b = if p then a else b := by
  by_cases h : p <;> simp [h, Scalar.select]

theorem comp_eq (x y : EReal) (a b : BitVec 32) :
    (comparator_f32_i32_d1 (F := Ideal) (x, a) (y, b) == 1#1) = decide (x < y) := by
  have h0 : ∀ z : EReal, Scalar.select (Ideal.cmp .une z z) (FloatOps.ofBits (F := Ideal) .f32 0x7FC00000#32 : EReal)
      (Scalar.select (Ideal.cmp .oeq z (FloatOps.ofBits (F := Ideal) .f32 0x00000000#32)) (FloatOps.ofBits (F := Ideal) .f32 0x00000000#32 : EReal) z) = z := by
    intro z
    simp only [Ideal.cmp, sel_dec, ne_eq, not_true_eq_false, if_false]
    split_ifs with h
    · exact h.symm
    · rfl
  refine (congrArg₂ (fun a b => (Ideal.cmp .olt a b == 1#1)) (h0 x) (h0 y)).trans ?_
  show (BitVec.ofBool (decide (x < y)) == 1#1) = _
  by_cases h : x < y <;> simp [h]

/-! ## The printed sort -/

theorem along_ix (r : Fin 80) (i k : Fin 512) : (ix2 r i : S80x512.Idx).along 1 k = ix2 r k := by
  funext a
  fin_cases a <;> rfl

theorem from_eq (x : FVec Ideal S80x512 .f32) (y : IVec S80x512 32) (s : Fin 512 → EReal) (r : Fin 80)
    (hx : ∀ u, x (ix2 r u) = -s u) (i : Fin 512) :
    sortedFrom (fun k k' : Fin 512 => comparator_f32_i32_d1 (F := Ideal) (x ((ix2 r i : S80x512.Idx).along 1 k), y ((ix2 r i : S80x512.Idx).along 1 k))
      (x ((ix2 r i : S80x512.Idx).along 1 k'), y ((ix2 r i : S80x512.Idx).along 1 k')) == 1#1) i = (rk s).symm i := by
  rw [← sorted_rk]
  congr 1
  funext k k'
  rw [comp_eq, along_ix, along_ix, hx, hx]
  exact decide_eq_decide.2 EReal.neg_lt_neg_iff

theorem sort_fst (x : FVec Ideal S80x512 .f32) (y : IVec S80x512 32) (s : Fin 512 → EReal) (r : Fin 80)
    (hx : ∀ u, x (ix2 r u) = -s u) (i : Fin 512) :
    (Host.sort2 S80x512 1 (comparator_f32_i32_d1 (F := Ideal)) x y).1 (ix2 r i) = -srt s i := by
  have e := from_eq x y s r hx i
  refine (congrArg (fun q : Fin 512 => x ((ix2 r i : S80x512.Idx).along 1 q)) e).trans ?_
  show x ((ix2 r i : S80x512.Idx).along 1 _) = _
  rw [along_ix, hx]
  rfl

theorem sort_snd (x : FVec Ideal S80x512 .f32) (y : IVec S80x512 32) (s : Fin 512 → EReal) (r : Fin 80)
    (hx : ∀ u, x (ix2 r u) = -s u) (i : Fin 512) :
    (Host.sort2 S80x512 1 (comparator_f32_i32_d1 (F := Ideal)) x y).2 (ix2 r i) = y (ix2 r ((rk s).symm i)) := by
  have e := from_eq x y s r hx i
  refine (congrArg (fun q : Fin 512 => y ((ix2 r i : S80x512.Idx).along 1 q)) e).trans ?_
  show y ((ix2 r i : S80x512.Idx).along 1 _) = _
  rw [along_ix]

/-! ## What the loop finds -/

theorem neg_at (x : FVec Ideal S80x512 .f32) (j : S80x512.Idx) : (Host.negf x : FVec Ideal S80x512 .f32) j = -x j := rfl

theorem read_ord (V : Valuation τ sig (Elt Ideal)) (r : Fin 80) (i : Fin 512) :
    (after hostOps0_16 V (Proc.devRef .tc main_v125_1) : IVec S80x512 32) (ix2 r i) =
      (Host.sort2 S80x512 1 (comparator_f32_i32_d1 (F := Ideal)) (Host.negf (after hostOps0_16 V (Proc.devRef .tc main_v122) : FVec Ideal S80x512 .f32)) (iotaInDim S80x512 32 1)).2 (ix2 r i) := by
  after_reads_at

theorem read_val (V : Valuation τ sig (Elt Ideal)) (r : Fin 80) (i : Fin 512) :
    (after hostOps0_16 V (Proc.devRef .tc main_v126) : FVec Ideal S80x512 .f32) (ix2 r i) =
      -(Host.sort2 S80x512 1 (comparator_f32_i32_d1 (F := Ideal)) (Host.negf (after hostOps0_16 V (Proc.devRef .tc main_v122) : FVec Ideal S80x512 .f32)) (iotaInDim S80x512 32 1)).1 (ix2 r i) := by
  after_reads_at

theorem ord16 (c : Dev nD) (r : Fin 80) (i : Fin 512) :
    (after hostOps0_16 (atScores m c) (Proc.devRef .tc main_v125_1) : IVec S80x512 32) (ix2 r i) = BitVec.ofNat 32 ((rk (row (args m c) r)).symm i).val :=
  (read_ord _ r i).trans (sort_snd _ _ (row (args m c) r) r (fun u => (neg_at _ _).trans (congrArg Neg.neg (row16 m c r u))) i)

theorem val16 (c : Dev nD) (r : Fin 80) (i : Fin 512) :
    (after hostOps0_16 (atScores m c) (Proc.devRef .tc main_v126) : FVec Ideal S80x512 .f32) (ix2 r i) = srt (row (args m c) r) i :=
  (read_val _ r i).trans ((congrArg Neg.neg (sort_fst _ _ (row (args m c) r) r (fun u => (neg_at _ _).trans (congrArg Neg.neg (row16 m c r u))) i)).trans (neg_neg _))

theorem read_pos (V : Valuation τ sig (Elt Ideal)) (r : Fin 80) (i : Fin 512) :
    (after hostOps0_16 V (Proc.devRef .tc main_v123) : IVec S80x512 32) (ix2 r i) = BitVec.ofNat 32 i.val := by
  after_reads_at

theorem one_at : (constant S_ .f32 0x3F800000#32 : FVec Ideal S_ .f32) ix0 = (1 : EReal) := by pointwise

theorem read_first (V : Valuation τ sig (Elt Ideal)) (r : Fin 80) (u : Fin 512) :
    (after hostOps0_16 V (Proc.devRef .tc main_v129) : IVec S80x512 1) (ix2 r u) =
      IntOp.cmpi .eq (BitVec.ofNat 32 u.val) ((after hostOps0_16 V (Proc.devRef .tc main_v125_1) : IVec S80x512 32) (ix2 r 0)) := by
  after_reads_at

theorem read_one (V : Valuation τ sig (Elt Ideal)) (z : S_.Idx) :
    (after hostOps0_16 V (Proc.devRef .tc main_cst_9) : FVec Ideal S_ .f32) z = (1 : EReal) := by
  after_reads_at
  first | done | pointwise

theorem read_zero (V : Valuation τ sig (Elt Ideal)) (r : Fin 80) (u : Fin 512) :
    (after hostOps0_16 V (Proc.devRef .tc main_v130) : FVec Ideal S80x512 .f32) (ix2 r u) = (0 : EReal) := by
  after_reads_at

variable (W : Valuation τ sig (Elt Ideal))

theorem read_mask (r : Fin 80) (u : Fin 512) :
    (after hostOps0_17 W (Proc.devRef .tc main_v131) : FVec Ideal S80x512 .f32) (ix2 r u) =
      (Scalar.select ((W (Proc.devRef .tc main_v129) : IVec S80x512 1) (ix2 r u)) ((W (Proc.devRef .tc main_cst_9) : FVec Ideal S_ .f32) ix0)
        ((W (Proc.devRef .tc main_v130) : FVec Ideal S80x512 .f32) (ix2 r u)) : EReal) := by
  after_reads_at
  rfl

theorem copy_ord : after hostOps0_18 W (Proc.devRef .tc main_v136_0) = W (Proc.devRef .tc main_v125_1) := by
  after_reads_at
  rfl
theorem copy_val : after hostOps0_18 W (Proc.devRef .tc main_v136_1) = W (Proc.devRef .tc main_v126) := by
  after_reads_at
  rfl
theorem copy_pos : after hostOps0_18 W (Proc.devRef .tc main_v136_2) = W (Proc.devRef .tc main_v123) := by
  after_reads_at
  rfl
theorem copy_msk : after hostOps0_18 W (Proc.devRef .tc main_v136_5) = W (Proc.devRef .tc main_v131) := by
  after_reads_at
  rfl
theorem copy_ctr (z : S_.Idx) : (after hostOps0_18 W (Proc.devRef .tc main_v136_4) : IVec S_ 32) z = 1#32 := by
  after_reads_at
  rfl
theorem copy_ps (r : Fin 80) : (after hostOps0_18 W (Proc.devRef .tc main_v136_6) : FVec Ideal S80x1 .f32) (ix2 r 0) = (W (Proc.devRef .tc main_v126) : FVec Ideal S80x512 .f32) (ix2 r 0) := by
  after_reads_at
  rw [id_eq]
  pointwise
theorem copy_pn (r : Fin 80) : (after hostOps0_18 W (Proc.devRef .tc main_v136_7) : FVec Ideal S80x1 .f32) (ix2 r 0) = (1 : EReal) := by
  after_reads_at
  rw [id_eq]
  pointwise
theorem copy_ns (r : Fin 80) : (after hostOps0_18 W (Proc.devRef .tc main_v136_8) : FVec Ideal S80x1 .f32) (ix2 r 0) = (W (Proc.devRef .tc main_v126) : FVec Ideal S80x512 .f32) (ix2 r 511) := by
  after_reads_at
  rw [id_eq]
  pointwise
theorem copy_nn (r : Fin 80) : (after hostOps0_18 W (Proc.devRef .tc main_v136_9) : FVec Ideal S80x1 .f32) (ix2 r 0) = (1 : EReal) := by
  after_reads_at
  rw [id_eq]
  pointwise

theorem entry16 (c : Dev nD) (r : Ref sig .tc) (h : r ∉ hostOps0_17_W) :
    after hostOps0_17 (after hostOps0_16 (atScores m c)) (Proc.devRef .tc r) = after hostOps0_16 (atScores m c) (Proc.devRef .tc r) :=
  after_of_writes_sub hostOps0_17 _ hostOps0_17_writes h

theorem mask17 (c : Dev nD) (r : Fin 80) (u : Fin 512) :
    (after hostOps0_17 (after hostOps0_16 (atScores m c)) (Proc.devRef .tc main_v131) : FVec Ideal S80x512 .f32) (ix2 r u) =
      (if (rk (row (args m c) r) u).val = 0 then 1 else 0 : EReal) := by
  have e : (after hostOps0_16 (atScores m c) (Proc.devRef .tc main_v129) : IVec S80x512 1) (ix2 r u)
      = BitVec.ofBool (decide (u = (rk (row (args m c) r)).symm 0)) :=
    (read_first _ r u).trans ((congrArg (IntOp.cmpi .eq (BitVec.ofNat 32 u.val)) (ord16 m c r 0)).trans (eq_word _ _))
  have h : u = (rk (row (args m c) r)).symm 0 ↔ (rk (row (args m c) r) u).val = 0 := by
    rw [Equiv.eq_symm_apply]
    exact Fin.ext_iff
  rw [read_mask, e, read_one, read_zero, sel_dec]
  exact if_congr h rfl rfl

/-- Before the first trip. -/
theorem inv_entry (c : Dev nD) : Inv (fun r => rk (row (args m c) r)) (fun r => srt (row (args m c) r)) 0 (atEntry m c) := by
  rw [entry_split]
  constructor
  · intro r i
    rw [copy_ord, entry16 m c _ (by decide)]
    exact ord16 m c r i
  · intro r i
    rw [copy_val, entry16 m c _ (by decide)]
    exact val16 m c r i
  · intro r i
    rw [copy_pos, entry16 m c _ (by decide)]
    exact read_pos _ r i
  · exact copy_ctr _
  · intro r u
    rw [copy_msk]
    refine (mask17 m c r u).trans ?_
    by_cases h : (rk (row (args m c) r) u).val = 0
    · rw [if_pos h, if_pos h]
    · rw [if_neg h, if_neg h, if_neg (by omega)]
  · intro r
    rw [copy_ps, entry16 m c _ (by decide)]
    exact val16 m c r 0
  · exact copy_pn _
  · intro r
    rw [copy_ns, entry16 m c _ (by decide)]
    exact val16 m c r 511
  · exact copy_nn _

end Cert.ReferenceIdeal.Whole
end
-- ==== Proof.RVal.lean ====
/-
  The reference's results: the loop's mask, the positives' mean, the refined mask, and the two scores pooled over time.
-/
module

public import proofs.«01_k».proof.Proof.RSort

@[expose] public section

set_option maxRecDepth 16384

noncomputable section

open Idealize.ShloMosaic Idealize.ShloMosaic.TcCoe Idealize.ShloMosaic.StableHlo Idealize.SL.Sem

namespace Cert.ReferenceIdeal.Whole

open Cert.ReferenceIdeal Cert.ReferenceIdeal.Gen Cert.ReferenceIdeal.Value

open Cert.Spec

variable (m : (ℓ : Loc nD τ sig) → Buf (Elt Ideal) ℓ) (V : Valuation τ sig (Elt Ideal))

/-! ## What the last operations leave, from any contents before them -/

theorem cnt_dec (q : EReal) : Scalar.select (BitVec.ofBool (decide (q = 0))) (1 : EReal) q = cnt q := by
  rw [sel_dec]; rfl

theorem read_cnt (r : Fin 80) :
    (after hostOps0_20 (after hostOps0_19 V) (Proc.devRef .tc main_v142) : FVec Ideal S80x1 .f32) (ix2 r 0) =
      cnt (∑ u, (V (Proc.devRef .tc main_v136_5) : FVec Ideal S80x512 .f32) (ix2 r u)) := by
  rw [← cnt_dec]
  after_reads_at

theorem read_segmask (n : Fin 4) (t : Fin 512) (k : Fin 20) :
    (after hostOps0_21 V (Proc.devRef .tc main_v152) : FVec Ideal S4x512x20 .f32) (ix3 n t k) =
      (if Ideal.div (∑ u : Fin 512, (mulf (V (Proc.devRef .tc main_v136_5) : FVec Ideal S80x512 .f32) (V (Proc.devRef .tc main_v122) : FVec Ideal S80x512 .f32) : FVec Ideal S80x512 .f32) (ix2 ⟨n.val * 20 + k.val, by omega⟩ u))
          ((V (Proc.devRef .tc main_v142) : FVec Ideal S80x1 .f32) (ix2 ⟨n.val * 20 + k.val, by omega⟩ 0))
          ≤ ((V (Proc.devRef .tc main_v122) : FVec Ideal S80x512 .f32) (ix2 ⟨n.val * 20 + k.val, by omega⟩ t) : EReal) then (1 : EReal) else 0)
        * (V (Proc.devRef .tc main_v136_5) : FVec Ideal S80x512 .f32) (ix2 ⟨n.val * 20 + k.val, by omega⟩ t) := by
  rw [← uitofp_bool]
  after_reads_at

theorem read_actnum (n : Fin 4) (k : Fin 20) :
    (after hostOps0_22 (after hostOps0_21 V) (Proc.devRef .tc main_v157) : FVec Ideal S4x20 .f32) (ix2 n k) =
      cnt (∑ t, (after hostOps0_21 V (Proc.devRef .tc main_v152) : FVec Ideal S4x512x20 .f32) (ix3 n t k)) := by
  rw [← cnt_dec]
  after_reads_at

theorem read_bkgnum (n : Fin 4) (k : Fin 20) :
    (after hostOps0_24 (after hostOps0_23 V) (Proc.devRef .tc main_v164) : FVec Ideal S4x20 .f32) (ix2 n k) =
      cnt (∑ t : Fin 512, ((1 : EReal) - (V (Proc.devRef .tc main_v152) : FVec Ideal S4x512x20 .f32) (ix3 n t k))) := by
  rw [← cnt_dec]
  after_reads_at

theorem read_act (n : Fin 4) (k : Fin 20) :
    (after hostOps0_25 V (Proc.devRef .tc main_v178) : FVec Ideal S4x20 .f32) (ix2 n k) =
      soft (fun k => Ideal.div (∑ t : Fin 512, (mulf (V (Proc.devRef .tc main_v50) : FVec Ideal S4x512x20 .f32) (V (Proc.devRef .tc main_v152) : FVec Ideal S4x512x20 .f32) : FVec Ideal S4x512x20 .f32) (ix3 n t k))
        ((V (Proc.devRef .tc main_v157) : FVec Ideal S4x20 .f32) (ix2 n k))) k := by
  after_reads_at
  simp only [bits_neg_inf, max_eq_right (bot_le (α := EReal))]
  rfl

theorem read_bkg (n : Fin 4) (k : Fin 20) :
    (after hostOps0_25 V (Proc.devRef .tc main_v194) : FVec Ideal S4x20 .f32) (ix2 n k) =
      soft (fun k => Ideal.div (∑ t : Fin 512, (mulf (V (Proc.devRef .tc main_v50) : FVec Ideal S4x512x20 .f32)
          (subf (broadcastInDim S4x512x20 ![] bcast_S_S4x512x20 (constant S_ .f32 0x3F800000#32)) (V (Proc.devRef .tc main_v152) : FVec Ideal S4x512x20 .f32)) : FVec Ideal S4x512x20 .f32) (ix3 n t k))
        ((V (Proc.devRef .tc main_v164) : FVec Ideal S4x20 .f32) (ix2 n k))) k := by
  after_reads_at
  simp only [bits_neg_inf, max_eq_right (bot_le (α := EReal))]
  rfl

/-! ## The loop's mask -/

theorem exit_mask (c : Dev nD) (r : Fin 80) (u : Fin 512) :
    (atExit m c (Proc.devRef .tc main_v136_5) : FVec Ideal S80x512 .f32) (ix2 r u) = msk (srt (row (args m c) r)) (rk (row (args m c) r) u) := by
  refine ((Inv.all m c (inv_entry m c) 510 le_rfl).cond.msk r u).trans ?_
  unfold msk
  by_cases h0 : (rk (row (args m c) r) u).val = 0
  · rw [if_pos h0, if_pos h0]
  · rw [if_neg h0, if_neg h0]
    by_cases h1 : (rk (row (args m c) r) u).val = 511
    · rw [if_neg (by omega), if_pos h1]
    · rw [if_pos (by omega), if_neg h1]

theorem exit_row (c : Dev nD) (r : Fin 80) (u : Fin 512) :
    (atExit m c (Proc.devRef .tc main_v122) : FVec Ideal S80x512 .f32) (ix2 r u) = row (args m c) r u := by
  rw [exit_keep m c main_v122 (by decide) (by decide), entry_row]

theorem exit_cas (c : Dev nD) (n : Fin 4) (t : Fin 512) (k : Fin 20) :
    (atExit m c (Proc.devRef .tc main_v50) : FVec Ideal S4x512x20 .f32) (ix3 n t k) = cas (args m c) n t k := by
  rw [exit_keep m c main_v50 (by decide) (by decide), entry_cas]

theorem srt_rk (s : Fin 512 → EReal) (u : Fin 512) : srt s (rk s u) = s u := by
  unfold srt; rw [Equiv.symm_apply_apply]

/-- The refinement of a row, written over time and written in order. -/
theorem mask_time (s : Fin 512 → EReal) (t : Fin 512) :
    (if Ideal.div (∑ u, msk (srt s) (rk s u) * s u) (cnt (∑ u, msk (srt s) (rk s u))) ≤ s t then (1 : EReal) else 0) * msk (srt s) (rk s t) = mask s t := by
  have e1 : (∑ u, msk (srt s) (rk s u) * s u) = ∑ i, msk (srt s) i * srt s i := by
    rw [← Equiv.sum_comp (rk s) fun i => msk (srt s) i * srt s i]
    exact Finset.sum_congr rfl fun u _ => by rw [srt_rk]
  have e2 : (∑ u, msk (srt s) (rk s u)) = ∑ i, msk (srt s) i := Equiv.sum_comp (rk s) fun i => msk (srt s) i
  unfold mask refined
  rw [e1, e2, srt_rk]
  unfold mean
  split_ifs
  · exact one_mul _
  · exact zero_mul _

theorem row_eq (A : Args) (n : Fin 4) (k : Fin 20) : row A ⟨n.val * 20 + k.val, by omega⟩ = fun u => seg A n u k := by
  unfold row
  funext u
  exact congrArg₂ (fun n k => seg A n u k) (Fin.ext (by show (n.val * 20 + k.val) / 20 = n.val; omega)) (Fin.ext (by show (n.val * 20 + k.val) % 20 = k.val; omega))

/-! ## The results -/

abbrev at20 (c : Dev nD) : Valuation τ sig (Elt Ideal) := after hostOps0_20 (after hostOps0_19 (atExit m c))
abbrev at22 (c : Dev nD) : Valuation τ sig (Elt Ideal) := after hostOps0_22 (after hostOps0_21 (at20 m c))
abbrev at24 (c : Dev nD) : Valuation τ sig (Elt Ideal) := after hostOps0_24 (after hostOps0_23 (at22 m c))

theorem end_split (c : Dev nD) : atEnd m c = after hostOps0_25 (at24 m c) := rfl

theorem keep20 (c : Dev nD) (r : Ref sig .tc) (h : r ∉ hostOps0_19_W) (h' : r ∉ hostOps0_20_W) :
    at20 m c (Proc.devRef .tc r) = atExit m c (Proc.devRef .tc r) := by
  rw [at20, after_of_writes_sub hostOps0_20 _ hostOps0_20_writes h', after_of_writes_sub hostOps0_19 _ hostOps0_19_writes h]

theorem keep22 (c : Dev nD) (r : Ref sig .tc) (h : r ∉ hostOps0_22_W) :
    at22 m c (Proc.devRef .tc r) = after hostOps0_21 (at20 m c) (Proc.devRef .tc r) := by
  rw [at22, after_of_writes_sub hostOps0_22 _ hostOps0_22_writes h]

theorem keep24 (c : Dev nD) (r : Ref sig .tc) (h : r ∉ hostOps0_23_W) (h' : r ∉ hostOps0_24_W) :
    at24 m c (Proc.devRef .tc r) = at22 m c (Proc.devRef .tc r) := by
  rw [at24, after_of_writes_sub hostOps0_24 _ hostOps0_24_writes h', after_of_writes_sub hostOps0_23 _ hostOps0_23_writes h]

theorem mask21 (c : Dev nD) (n : Fin 4) (t : Fin 512) (k : Fin 20) :
    (after hostOps0_21 (at20 m c) (Proc.devRef .tc main_v152) : FVec Ideal S4x512x20 .f32) (ix3 n t k) = segMask (args m c) n t k := by
  have hm : ∀ r u, (at20 m c (Proc.devRef .tc main_v136_5) : FVec Ideal S80x512 .f32) (ix2 r u) = msk (srt (row (args m c) r)) (rk (row (args m c) r) u) := fun r u => by
    rw [keep20 m c _ (by decide) (by decide), exit_mask]
  have hs : ∀ r u, (at20 m c (Proc.devRef .tc main_v122) : FVec Ideal S80x512 .f32) (ix2 r u) = row (args m c) r u := fun r u => by
    rw [keep20 m c _ (by decide) (by decide), exit_row]
  have hc : ∀ r, (at20 m c (Proc.devRef .tc main_v142) : FVec Ideal S80x1 .f32) (ix2 r 0) = cnt (∑ u, msk (srt (row (args m c) r)) (rk (row (args m c) r) u)) := fun r => by
    rw [at20, read_cnt]
    exact congrArg cnt (Finset.sum_congr rfl fun u _ => exit_mask m c r u)
  have hp : ∀ r, (∑ u : Fin 512, (mulf (at20 m c (Proc.devRef .tc main_v136_5) : FVec Ideal S80x512 .f32) (at20 m c (Proc.devRef .tc main_v122) : FVec Ideal S80x512 .f32) : FVec Ideal S80x512 .f32) (ix2 r u))
      = ∑ u, msk (srt (row (args m c) r)) (rk (row (args m c) r) u) * row (args m c) r u := fun r =>
    Finset.sum_congr rfl fun u _ => congrArg₂ (fun a b : EReal => a * b) (hm r u) (hs r u)
  rw [read_segmask, hp, hc, hs, hm, mask_time, row_eq]
  rfl

theorem mask22 (c : Dev nD) (n : Fin 4) (t : Fin 512) (k : Fin 20) :
    (at22 m c (Proc.devRef .tc main_v152) : FVec Ideal S4x512x20 .f32) (ix3 n t k) = segMask (args m c) n t k := by
  rw [keep22 m c _ (by decide), mask21]

theorem mask24 (c : Dev nD) (n : Fin 4) (t : Fin 512) (k : Fin 20) :
    (at24 m c (Proc.devRef .tc main_v152) : FVec Ideal S4x512x20 .f32) (ix3 n t k) = segMask (args m c) n t k := by
  rw [keep24 m c _ (by decide) (by decide), mask22]

theorem cas24 (c : Dev nD) (n : Fin 4) (t : Fin 512) (k : Fin 20) :
    (at24 m c (Proc.devRef .tc main_v50) : FVec Ideal S4x512x20 .f32) (ix3 n t k) = cas (args m c) n t k := by
  rw [keep24 m c _ (by decide) (by decide), keep22 m c _ (by decide), after_of_writes_sub hostOps0_21 _ hostOps0_21_writes (by decide),
    keep20 m c _ (by decide) (by decide), exit_cas]

theorem actnum24 (c : Dev nD) (n : Fin 4) (k : Fin 20) :
    (at24 m c (Proc.devRef .tc main_v157) : FVec Ideal S4x20 .f32) (ix2 n k) = cnt (∑ t, segMask (args m c) n t k) := by
  rw [keep24 m c _ (by decide) (by decide), at22, read_actnum]
  exact congrArg cnt (Finset.sum_congr rfl fun t _ => mask21 m c n t k)

theorem bkgnum24 (c : Dev nD) (n : Fin 4) (k : Fin 20) :
    (at24 m c (Proc.devRef .tc main_v164) : FVec Ideal S4x20 .f32) (ix2 n k) = cnt (∑ t, (1 - segMask (args m c) n t k)) := by
  rw [at24, read_bkgnum]
  exact congrArg cnt (Finset.sum_congr rfl fun t _ => congrArg (fun q : EReal => 1 - q) (mask22 m c n t k))

theorem ref1 (c : Dev nD) (n : Fin 4) (k : Fin 20) :
    (atEnd m c (Proc.devRef .tc main_v178) : FVec Ideal S4x20 .f32) (ix2 n k) = act (args m c) n k := by
  rw [end_split, read_act]
  unfold act
  refine congrArg (fun f => soft f k) (funext fun k => congrArg₂ Ideal.div (Finset.sum_congr rfl fun t _ => ?_) (actnum24 m c n k))
  exact congrArg₂ (fun a b : EReal => a * b) (cas24 m c n t k) (mask24 m c n t k)

theorem one_all (n : Fin 4) (t : Fin 512) (k : Fin 20) (x : FVec Ideal S4x512x20 .f32) :
    (subf (broadcastInDim S4x512x20 ![] bcast_S_S4x512x20 (constant S_ .f32 0x3F800000#32)) x : FVec Ideal S4x512x20 .f32) (ix3 n t k) = (1 : EReal) - x (ix3 n t k) := by
  pointwise

theorem ref2 (c : Dev nD) (n : Fin 4) (k : Fin 20) :
    (atEnd m c (Proc.devRef .tc main_v194) : FVec Ideal S4x20 .f32) (ix2 n k) = bkg (args m c) n k := by
  rw [end_split, read_bkg]
  unfold bkg
  refine congrArg (fun f => soft f k) (funext fun k => congrArg₂ Ideal.div (Finset.sum_congr rfl fun t _ => ?_) (bkgnum24 m c n k))
  exact congrArg₂ (fun a b : EReal => a * b) (cas24 m c n t k) ((one_all n t k _).trans (congrArg (fun q : EReal => 1 - q) (mask24 m c n t k)))

theorem ref3 (c : Dev nD) (n : Fin 4) (t : Fin 512) :
    (atEnd m c (Proc.devRef .tc main_v116) : FVec Ideal S4x512x1 .f32) (ix3 n t 0) = sigm (att (args m c) n t) := by
  rw [atEnd, post_keep _ _ (by decide), exit_keep m c _ (by decide) (by decide), entry_aas]

theorem ref4 (c : Dev nD) (n : Fin 4) (t : Fin 512) (k : Fin 20) :
    (atEnd m c (Proc.devRef .tc main_v120) : FVec Ideal S4x512x20 .f32) (ix3 n t k) = seg (args m c) n t k := by
  rw [atEnd, post_keep _ _ (by decide), exit_keep m c _ (by decide) (by decide), entry_seg]

theorem ref5 (c : Dev nD) (n : Fin 4) (t : Fin 512) (k : Fin 20) :
    (atEnd m c (Proc.devRef .tc main_v152) : FVec Ideal S4x512x20 .f32) (ix3 n t k) = segMask (args m c) n t k := by
  rw [end_split, after_of_writes_sub hostOps0_25 _ hostOps0_25_writes (by decide), mask24]

end Cert.ReferenceIdeal.Whole
end
-- ==== Proof.Values.lean ====
/-
  The value claim: from the same arguments the kernel and the reference end with the same five results, because both end
  with the results of `Proof.Spec`.
-/
module

public import proofs.«01_k».proof.Defs
public import proofs.«01_k».proof.Proof.KVal
public import proofs.«01_k».proof.Proof.RVal
public import proofs.«01_k».proof.Proof.Gen.KernelIdeal
public import proofs.«01_k».proof.Proof.Gen.ReferenceIdeal

@[expose] public section

noncomputable section

open Idealize.ShloMosaic Idealize.ShloMosaic.TcCoe Idealize.ShloMosaic.StableHlo Idealize.SL.Sem

namespace Cert.Values

open Cert.Spec

/-- Two argument lists with equal members are equal. -/
theorem args_ext {A B : Args}
    (h0 : A.a0 = B.a0) (h1 : A.a1 = B.a1) (h2 : A.a2 = B.a2) (h3 : A.a3 = B.a3) (h4 : A.a4 = B.a4) (h5 : A.a5 = B.a5) (h6 : A.a6 = B.a6) (h7 : A.a7 = B.a7) (h8 : A.a8 = B.a8) (h9 : A.a9 = B.a9) (h10 : A.a10 = B.a10) (h11 : A.a11 = B.a11) (h12 : A.a12 = B.a12) (h13 : A.a13 = B.a13) (h14 : A.a14 = B.a14) (h15 : A.a15 = B.a15) (h16 : A.a16 = B.a16) : A = B := by
  cases A; cases B
  simp only at h0 h1 h2 h3 h4 h5 h6 h7 h8 h9 h10 h11 h12 h13 h14 h15 h16
  subst h0 h1 h2 h3 h4 h5 h6 h7 h8 h9 h10 h11 h12 h13 h14 h15 h16
  rfl

theorem ext2 {a b : ℕ} (f g : FVec Ideal ⟨2, ![a, b]⟩ .f32) (h : ∀ i k, f (ix2 i k) = g (ix2 i k)) : f = g := by
  funext j
  rw [eq_ix2 j]
  exact h _ _

theorem ext3 {a b d : ℕ} (f g : FVec Ideal ⟨3, ![a, b, d]⟩ .f32) (h : ∀ i k l, f (ix3 i k l) = g (ix3 i k l)) : f = g := by
  funext j
  rw [eq_ix3 j]
  exact h _ _ _

theorem ext3_1 {a b : ℕ} (f g : FVec Ideal ⟨3, ![a, b, 1]⟩ .f32) (h : ∀ i k, f (ix3 i k 0) = g (ix3 i k 0)) : f = g :=
  ext3 f g fun i k l => by
    have e : l = 0 := Fin.ext (by omega)
    rw [e]
    exact h i k

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (ρ' : Dev Cert.ReferenceIdeal.nD → PrngReg)

/-- Device `c`'s arguments are the same in both programs. -/
def Same (c : Dev Cert.KernelIdeal.nD) : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
    ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
    ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
    ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
    ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
    ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
    ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
    ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
    ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

theorem same_args (c : Dev Cert.KernelIdeal.nD) (h : Same m m' c) : Cert.ReferenceIdeal.Whole.args m' c = Cert.KernelIdeal.Whole.args m c :=
  args_ext
    (funext fun a => funext fun b => funext fun d => congrFun (h.1) (ix3 a b d))
    (funext fun a => funext fun b => funext fun d => congrFun (h.2.1) (ix3 a b d))
    (funext fun a => congrFun (h.2.2.1) (ix1 a))
    (funext fun a => funext fun b => congrFun (h.2.2.2.1) (ix3 a b 0))
    (funext fun a => congrFun (h.2.2.2.2.1) (ix1 a))
    (funext fun a => funext fun b => funext fun d => congrFun (h.2.2.2.2.2.1) (ix3 a b d))
    (funext fun a => congrFun (h.2.2.2.2.2.2.1) (ix1 a))
    (funext fun a => funext fun b => congrFun (h.2.2.2.2.2.2.2.1) (ix3 a b 0))
    (funext fun a => congrFun (h.2.2.2.2.2.2.2.2.1) (ix1 a))
    (funext fun a => funext fun b => funext fun d => congrFun (h.2.2.2.2.2.2.2.2.2.1) (ix3 a b d))
    (funext fun a => congrFun (h.2.2.2.2.2.2.2.2.2.2.1) (ix1 a))
    (funext fun a => congrFun (h.2.2.2.2.2.2.2.2.2.2.2.1) (ix3 0 a 0))
    (congrFun (h.2.2.2.2.2.2.2.2.2.2.2.2.1) (ix1 0))
    (funext fun a => funext fun b => funext fun d => congrFun (h.2.2.2.2.2.2.2.2.2.2.2.2.2.1) (ix3 a b d))
    (funext fun a => congrFun (h.2.2.2.2.2.2.2.2.2.2.2.2.2.2.1) (ix1 a))
    (funext fun a => congrFun (h.2.2.2.2.2.2.2.2.2.2.2.2.2.2.2.1) (ix3 0 a 0))
    (congrFun (h.2.2.2.2.2.2.2.2.2.2.2.2.2.2.2.2) (ix1 0))

theorem same_1 (c : Dev Cert.KernelIdeal.nD) (h : Same m m' c) :
    (Cert.ReferenceIdeal.Whole.atEnd m' c (Proc.devRef .tc Cert.ReferenceIdeal.main_v178) : FVec Ideal Cert.ReferenceIdeal.S4x20 .f32) = (Cert.KernelIdeal.Whole.W30 m ρ c (Proc.devRef .tc Cert.KernelIdeal.main_v62) : FVec Ideal Cert.KernelIdeal.S4x20 .f32) :=
  ext2 _ _ fun n k => (Cert.ReferenceIdeal.Whole.ref1 m' c n k).trans ((congrArg (fun A => act A n k) (same_args m m' c h)).trans (Cert.KernelIdeal.Whole.res1 m ρ c n k).symm)

theorem same_2 (c : Dev Cert.KernelIdeal.nD) (h : Same m m' c) :
    (Cert.ReferenceIdeal.Whole.atEnd m' c (Proc.devRef .tc Cert.ReferenceIdeal.main_v194) : FVec Ideal Cert.ReferenceIdeal.S4x20 .f32) = (Cert.KernelIdeal.Whole.W30 m ρ c (Proc.devRef .tc Cert.KernelIdeal.main_v63) : FVec Ideal Cert.KernelIdeal.S4x20 .f32) :=
  ext2 _ _ fun n k => (Cert.ReferenceIdeal.Whole.ref2 m' c n k).trans ((congrArg (fun A => bkg A n k) (same_args m m' c h)).trans (Cert.KernelIdeal.Whole.res2 m ρ c n k).symm)

theorem same_3 (c : Dev Cert.KernelIdeal.nD) (h : Same m m' c) :
    (Cert.ReferenceIdeal.Whole.atEnd m' c (Proc.devRef .tc Cert.ReferenceIdeal.main_v116) : FVec Ideal Cert.ReferenceIdeal.S4x512x1 .f32) = (Cert.KernelIdeal.Whole.W30 m ρ c (Proc.devRef .tc Cert.KernelIdeal.main_v64) : FVec Ideal Cert.KernelIdeal.S4x512x1 .f32) :=
  ext3_1 _ _ fun n t => (Cert.ReferenceIdeal.Whole.ref3 m' c n t).trans ((congrArg (fun A => sigm (att A n t)) (same_args m m' c h)).trans (Cert.KernelIdeal.Whole.res3 m ρ c n t).symm)

theorem same_4 (c : Dev Cert.KernelIdeal.nD) (h : Same m m' c) :
    (Cert.ReferenceIdeal.Whole.atEnd m' c (Proc.devRef .tc Cert.ReferenceIdeal.main_v120) : FVec Ideal Cert.ReferenceIdeal.S4x512x20 .f32) = (Cert.KernelIdeal.Whole.W30 m ρ c (Proc.devRef .tc Cert.KernelIdeal.main_v47) : FVec Ideal Cert.KernelIdeal.S4x512x20 .f32) :=
  ext3 _ _ fun n t k => (Cert.ReferenceIdeal.Whole.ref4 m' c n t k).trans ((congrArg (fun A => seg A n t k) (same_args m m' c h)).trans (Cert.KernelIdeal.Whole.res4 m ρ c n t k).symm)

theorem same_5 (c : Dev Cert.KernelIdeal.nD) (h : Same m m' c) :
    (Cert.ReferenceIdeal.Whole.atEnd m' c (Proc.devRef .tc Cert.ReferenceIdeal.main_v152) : FVec Ideal Cert.ReferenceIdeal.S4x512x20 .f32) = (Cert.KernelIdeal.Whole.W30 m ρ c (Proc.devRef .tc Cert.KernelIdeal.main_v60) : FVec Ideal Cert.KernelIdeal.S4x512x20 .f32) :=
  ext3 _ _ fun n t k => (Cert.ReferenceIdeal.Whole.ref5 m' c n t k).trans ((congrArg (fun A => segMask A n t k) (same_args m m' c h)).trans (Cert.KernelIdeal.Whole.res5 m ρ c n t k).symm)

theorem algebraic : Cert.algebraic_KernelIdeal_ReferenceIdeal (hKernelIdeal := Cert.KernelIdeal.Gen.facts) (hReferenceIdeal := Cert.ReferenceIdeal.Gen.facts) := by
  intro m ρ m' ρ' _ h
  refine ⟨fun c => Cert.KernelIdeal.Whole.W30 m ρ c (Proc.devRef .tc Cert.KernelIdeal.main_v62), fun c => Cert.KernelIdeal.Whole.W30 m ρ c (Proc.devRef .tc Cert.KernelIdeal.main_v63), fun c => Cert.KernelIdeal.Whole.W30 m ρ c (Proc.devRef .tc Cert.KernelIdeal.main_v64), fun c => Cert.KernelIdeal.Whole.W30 m ρ c (Proc.devRef .tc Cert.KernelIdeal.main_v47), fun c => Cert.KernelIdeal.Whole.W30 m ρ c (Proc.devRef .tc Cert.KernelIdeal.main_v60), ?_, ?_⟩
  · refine (θ_run Cert.KernelIdeal.defs _ _).mono (fun r h => fun c => ⟨
      h.1 c _ (Cert.KernelIdeal.Whole.mem_uc Cert.KernelIdeal.main_v62 (by decide)),
      h.1 c _ (Cert.KernelIdeal.Whole.mem_uc Cert.KernelIdeal.main_v63 (by decide)),
      h.1 c _ (Cert.KernelIdeal.Whole.mem_uc Cert.KernelIdeal.main_v64 (by decide)),
      h.1 c _ (Cert.KernelIdeal.Whole.mem_uc Cert.KernelIdeal.main_v47 (by decide)),
      h.1 c _ (Cert.KernelIdeal.Whole.mem_uc Cert.KernelIdeal.main_v60 (by decide)),
      (h.1 c _ (Cert.KernelIdeal.Whole.mem_uc Cert.KernelIdeal.main_arg0 (by decide))).trans (Cert.KernelIdeal.Whole.W30_main_arg0 m ρ c),
      (h.1 c _ (Cert.KernelIdeal.Whole.mem_uc Cert.KernelIdeal.main_arg1 (by decide))).trans (Cert.KernelIdeal.Whole.W30_main_arg1 m ρ c),
      (h.1 c _ (Cert.KernelIdeal.Whole.mem_uc Cert.KernelIdeal.main_arg2 (by decide))).trans (Cert.KernelIdeal.Whole.W30_main_arg2 m ρ c),
      (h.1 c _ (Cert.KernelIdeal.Whole.mem_uc Cert.KernelIdeal.main_arg3 (by decide))).trans (Cert.KernelIdeal.Whole.W30_main_arg3 m ρ c),
      (h.1 c _ (Cert.KernelIdeal.Whole.mem_uc Cert.KernelIdeal.main_arg4 (by decide))).trans (Cert.KernelIdeal.Whole.W30_main_arg4 m ρ c),
      (h.1 c _ (Cert.KernelIdeal.Whole.mem_uc Cert.KernelIdeal.main_arg5 (by decide))).trans (Cert.KernelIdeal.Whole.W30_main_arg5 m ρ c),
      (h.1 c _ (Cert.KernelIdeal.Whole.mem_uc Cert.KernelIdeal.main_arg6 (by decide))).trans (Cert.KernelIdeal.Whole.W30_main_arg6 m ρ c),
      (h.1 c _ (Cert.KernelIdeal.Whole.mem_uc Cert.KernelIdeal.main_arg7 (by decide))).trans (Cert.KernelIdeal.Whole.W30_main_arg7 m ρ c),
      (h.1 c _ (Cert.KernelIdeal.Whole.mem_uc Cert.KernelIdeal.main_arg8 (by decide))).trans (Cert.KernelIdeal.Whole.W30_main_arg8 m ρ c),
      (h.1 c _ (Cert.KernelIdeal.Whole.mem_uc Cert.KernelIdeal.main_arg9 (by decide))).trans (Cert.KernelIdeal.Whole.W30_main_arg9 m ρ c),
      (h.1 c _ (Cert.KernelIdeal.Whole.mem_uc Cert.KernelIdeal.main_arg10 (by decide))).trans (Cert.KernelIdeal.Whole.W30_main_arg10 m ρ c),
      (h.1 c _ (Cert.KernelIdeal.Whole.mem_uc Cert.KernelIdeal.main_arg11 (by decide))).trans (Cert.KernelIdeal.Whole.W30_main_arg11 m ρ c),
      (h.1 c _ (Cert.KernelIdeal.Whole.mem_uc Cert.KernelIdeal.main_arg12 (by decide))).trans (Cert.KernelIdeal.Whole.W30_main_arg12 m ρ c),
      (h.1 c _ (Cert.KernelIdeal.Whole.mem_uc Cert.KernelIdeal.main_arg13 (by decide))).trans (Cert.KernelIdeal.Whole.W30_main_arg13 m ρ c),
      (h.1 c _ (Cert.KernelIdeal.Whole.mem_uc Cert.KernelIdeal.main_arg14 (by decide))).trans (Cert.KernelIdeal.Whole.W30_main_arg14 m ρ c),
      (h.1 c _ (Cert.KernelIdeal.Whole.mem_uc Cert.KernelIdeal.main_arg15 (by decide))).trans (Cert.KernelIdeal.Whole.W30_main_arg15 m ρ c),
      (h.1 c _ (Cert.KernelIdeal.Whole.mem_uc Cert.KernelIdeal.main_arg16 (by decide))).trans (Cert.KernelIdeal.Whole.W30_main_arg16 m ρ c)⟩) (Cert.KernelIdeal.Whole.run_mem m ρ)
  · refine (θ_run Cert.ReferenceIdeal.defs _ _).mono (fun r k => fun c => ⟨
      (k c Cert.ReferenceIdeal.main_v178 rfl).trans (same_1 m ρ m' c (h c)),
      (k c Cert.ReferenceIdeal.main_v194 rfl).trans (same_2 m ρ m' c (h c)),
      (k c Cert.ReferenceIdeal.main_v116 rfl).trans (same_3 m ρ m' c (h c)),
      (k c Cert.ReferenceIdeal.main_v120 rfl).trans (same_4 m ρ m' c (h c)),
      (k c Cert.ReferenceIdeal.main_v152 rfl).trans (same_5 m ρ m' c (h c)),
      (k c Cert.ReferenceIdeal.main_arg0 rfl).trans (Cert.ReferenceIdeal.Whole.fin_arg0 m' c),
      (k c Cert.ReferenceIdeal.main_arg1 rfl).trans (Cert.ReferenceIdeal.Whole.fin_arg1 m' c),
      (k c Cert.ReferenceIdeal.main_arg2 rfl).trans (Cert.ReferenceIdeal.Whole.fin_arg2 m' c),
      (k c Cert.ReferenceIdeal.main_arg3 rfl).trans (Cert.ReferenceIdeal.Whole.fin_arg3 m' c),
      (k c Cert.ReferenceIdeal.main_arg4 rfl).trans (Cert.ReferenceIdeal.Whole.fin_arg4 m' c),
      (k c Cert.ReferenceIdeal.main_arg5 rfl).trans (Cert.ReferenceIdeal.Whole.fin_arg5 m' c),
      (k c Cert.ReferenceIdeal.main_arg6 rfl).trans (Cert.ReferenceIdeal.Whole.fin_arg6 m' c),
      (k c Cert.ReferenceIdeal.main_arg7 rfl).trans (Cert.ReferenceIdeal.Whole.fin_arg7 m' c),
      (k c Cert.ReferenceIdeal.main_arg8 rfl).trans (Cert.ReferenceIdeal.Whole.fin_arg8 m' c),
      (k c Cert.ReferenceIdeal.main_arg9 rfl).trans (Cert.ReferenceIdeal.Whole.fin_arg9 m' c),
      (k c Cert.ReferenceIdeal.main_arg10 rfl).trans (Cert.ReferenceIdeal.Whole.fin_arg10 m' c),
      (k c Cert.ReferenceIdeal.main_arg11 rfl).trans (Cert.ReferenceIdeal.Whole.fin_arg11 m' c),
      (k c Cert.ReferenceIdeal.main_arg12 rfl).trans (Cert.ReferenceIdeal.Whole.fin_arg12 m' c),
      (k c Cert.ReferenceIdeal.main_arg13 rfl).trans (Cert.ReferenceIdeal.Whole.fin_arg13 m' c),
      (k c Cert.ReferenceIdeal.main_arg14 rfl).trans (Cert.ReferenceIdeal.Whole.fin_arg14 m' c),
      (k c Cert.ReferenceIdeal.main_arg15 rfl).trans (Cert.ReferenceIdeal.Whole.fin_arg15 m' c),
      (k c Cert.ReferenceIdeal.main_arg16 rfl).trans (Cert.ReferenceIdeal.Whole.fin_arg16 m' c)⟩) (Cert.ReferenceIdeal.Whole.run_fin m' ρ')

end Cert.Values

end
-- ==== Proof.lean ====
/- The proof of the claims about the kernel and its reference: the frames come from `Proof.PRun`, `Proof.Run` and
   `Proof.RefFrame`, the equality of the results from `Proof.Values`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.PRun
public import proofs.«01_k».proof.Proof.Run
public import proofs.«01_k».proof.Proof.RefFrame
public import proofs.«01_k».proof.Proof.Values
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ,
  fun m ρ _ => Cert.ReferenceIdeal.Whole.frame m ρ, trivial, Cert.Values.algebraic⟩

end Cert.Proof

end
